-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S2x2048x1024 : Shape := ⟨3, ![2, 2048, 1024]⟩
abbrev S2 : Shape := ⟨1, ![2]⟩
abbrev S2x512x1024 : Shape := ⟨3, ![2, 512, 1024]⟩
abbrev S32 : Shape := ⟨1, ![32]⟩
abbrev S_ : Shape := ⟨0, ![]⟩
abbrev S1 : Shape := ⟨1, ![1]⟩
abbrev S512x1024 : Shape := ⟨2, ![512, 1024]⟩
abbrev S1x2048x1024 : Shape := ⟨3, ![1, 2048, 1024]⟩
abbrev S2048x1024 : Shape := ⟨2, ![2048, 1024]⟩
abbrev S1x512x1024 : Shape := ⟨3, ![1, 512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .hbm, ⟨2, _⟩ => ⟨S32768x1024, .f32⟩
  | .local _ .vmem, ⟨0, _⟩ => ⟨S2x2048x1024, .f32⟩
  | .local _ .vmem, ⟨1, _⟩ => ⟨S2x512x1024, .f32⟩
  | .local _ .vmem, ⟨2, _⟩ => ⟨S2x512x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 140 → Bool
  | ⟨i, _⟩ => dmaSemScopedAt i

abbrev sig : RefSig :=
  (ofTc nBuf bufTy 1 140 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch3 : Ref sig .tc := ⟨.vmem, 1, rfl⟩
abbrev cc0_scratch6 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v17 : BitVec 32 := Scalar.muli v2 c16384_i32
  let v18 : BitVec 32 := Scalar.addi v17 c0_i32_12
  let c0_i32_18 : BitVec 32 := 0#32
  ![v18.toNat, 0]
def k0_dev3 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v19 : BitVec 32 := Scalar.muli v2 c2_i32_15
  let v20 : BitVec 32 := Scalar.addi c0_i32_16 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v21 : BitVec 32 := Scalar.muli v6 c1_i32_17
  let v22 : BitVec 32 := Scalar.addi v20 v21
  v22.toNat
def k0_dev4 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v31 : BitVec 32 := Scalar.muli v2 c2_i32_23
  let v32 : BitVec 32 := Scalar.addi c0_i32_24 v31
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v33 : BitVec 32 := Scalar.muli v6 c1_i32_25
  let v34 : BitVec 32 := Scalar.addi v32 v33
  v34.toNat
def k0_dev5 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v43 : BitVec 32 := Scalar.muli v2 c2_i32_31
  let v44 : BitVec 32 := Scalar.addi c0_i32_32 v43
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v45 : BitVec 32 := Scalar.muli v6 c1_i32_33
  let v46 : BitVec 32 := Scalar.addi v44 v45
  v46.toNat
def k0_dev6 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v55 : BitVec 32 := Scalar.muli v2 c2_i32_38
  let v56 : BitVec 32 := Scalar.addi c0_i32_39 v55
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v57 : BitVec 32 := Scalar.muli v6 c1_i32_40
  let v58 : BitVec 32 := Scalar.addi v56 v57
  v58.toNat
def k0_dev7 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v67 : BitVec 32 := Scalar.muli v2 c2_i32_45
  let v68 : BitVec 32 := Scalar.addi c0_i32_46 v67
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v69 : BitVec 32 := Scalar.muli v6 c1_i32_47
  let v70 : BitVec 32 := Scalar.addi v68 v69
  v70.toNat
def k0_dev8 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v79 : BitVec 32 := Scalar.muli v2 c2_i32_52
  let v80 : BitVec 32 := Scalar.addi c0_i32_53 v79
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v81 : BitVec 32 := Scalar.muli v6 c1_i32_54
  let v82 : BitVec 32 := Scalar.addi v80 v81
  v82.toNat
def k0_dev9 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v91 : BitVec 32 := Scalar.muli v2 c2_i32_59
  let v92 : BitVec 32 := Scalar.addi c0_i32_60 v91
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v93 : BitVec 32 := Scalar.muli v6 c1_i32_61
  let v94 : BitVec 32 := Scalar.addi v92 v93
  v94.toNat
def k0_dev10 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v103 : BitVec 32 := Scalar.muli v2 c2_i32_66
  let v104 : BitVec 32 := Scalar.addi c0_i32_67 v103
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v105 : BitVec 32 := Scalar.muli v6 c1_i32_68
  let v106 : BitVec 32 := Scalar.addi v104 v105
  v106.toNat
def k0_dev11 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v115 : BitVec 32 := Scalar.muli v2 c2_i32_73
  let v116 : BitVec 32 := Scalar.addi c0_i32_74 v115
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v117 : BitVec 32 := Scalar.muli v6 c1_i32_75
  let v118 : BitVec 32 := Scalar.addi v116 v117
  v118.toNat
def k0_dev12 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_80 : BitVec 32 := 2#32
  let v127 : BitVec 32 := Scalar.muli v2 c2_i32_80
  let v128 : BitVec 32 := Scalar.addi c0_i32_81 v127
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_82 : BitVec 32 := 1#32
  let v129 : BitVec 32 := Scalar.muli v6 c1_i32_82
  let v130 : BitVec 32 := Scalar.addi v128 v129
  v130.toNat
def k0_dev13 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v139 : BitVec 32 := Scalar.muli v2 c2_i32_87
  let v140 : BitVec 32 := Scalar.addi c0_i32_88 v139
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v141 : BitVec 32 := Scalar.muli v6 c1_i32_89
  let v142 : BitVec 32 := Scalar.addi v140 v141
  v142.toNat
def k0_dev14 (d0 : Dev nD) : Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_94 : BitVec 32 := 2#32
  let v151 : BitVec 32 := Scalar.muli v2 c2_i32_94
  let v152 : BitVec 32 := Scalar.addi c0_i32_95 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_96 : BitVec 32 := 1#32
  let v153 : BitVec 32 := Scalar.muli v6 c1_i32_96
  let v154 : BitVec 32 := Scalar.addi v152 v153
  v154.toNat
def k0_dev15 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v163 : BitVec 32 := Scalar.muli v2 c2_i32_101
  let v164 : BitVec 32 := Scalar.addi c0_i32_102 v163
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v165 : BitVec 32 := Scalar.muli v6 c1_i32_103
  let v166 : BitVec 32 := Scalar.addi v164 v165
  v166.toNat
def k0_dev16 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v175 : BitVec 32 := Scalar.muli v2 c2_i32_108
  let v176 : BitVec 32 := Scalar.addi c0_i32_109 v175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_110 : BitVec 32 := 1#32
  let v177 : BitVec 32 := Scalar.muli v6 c1_i32_110
  let v178 : BitVec 32 := Scalar.addi v176 v177
  v178.toNat
def k0_dev17 (d0 : Dev nD) : Nat :=
  let c0_i32_116 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_115 : BitVec 32 := 2#32
  let v187 : BitVec 32 := Scalar.muli v2 c2_i32_115
  let v188 : BitVec 32 := Scalar.addi c0_i32_116 v187
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_117 : BitVec 32 := 1#32
  let v189 : BitVec 32 := Scalar.muli v6 c1_i32_117
  let v190 : BitVec 32 := Scalar.addi v188 v189
  v190.toNat
def k0_dev18 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v199 : BitVec 32 := Scalar.muli v2 c2_i32_122
  let v200 : BitVec 32 := Scalar.addi c0_i32_123 v199
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_124 : BitVec 32 := 1#32
  let v201 : BitVec 32 := Scalar.muli v6 c1_i32_124
  let v202 : BitVec 32 := Scalar.addi v200 v201
  v202.toNat
def k0_dev19 (d0 : Dev nD) : Nat :=
  let c0_i32_130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_129 : BitVec 32 := 2#32
  let v211 : BitVec 32 := Scalar.muli v2 c2_i32_129
  let v212 : BitVec 32 := Scalar.addi c0_i32_130 v211
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_131 : BitVec 32 := 1#32
  let v213 : BitVec 32 := Scalar.muli v6 c1_i32_131
  let v214 : BitVec 32 := Scalar.addi v212 v213
  v214.toNat
def k0_dev20 (d0 : Dev nD) : Nat :=
  let c0_i32_137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_136 : BitVec 32 := 2#32
  let v223 : BitVec 32 := Scalar.muli v2 c2_i32_136
  let v224 : BitVec 32 := Scalar.addi c0_i32_137 v223
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_138 : BitVec 32 := 1#32
  let v225 : BitVec 32 := Scalar.muli v6 c1_i32_138
  let v226 : BitVec 32 := Scalar.addi v224 v225
  v226.toNat
def k0_dev21 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_143 : BitVec 32 := 2#32
  let v235 : BitVec 32 := Scalar.muli v2 c2_i32_143
  let v236 : BitVec 32 := Scalar.addi c0_i32_144 v235
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_145 : BitVec 32 := 1#32
  let v237 : BitVec 32 := Scalar.muli v6 c1_i32_145
  let v238 : BitVec 32 := Scalar.addi v236 v237
  v238.toNat
def k0_dev22 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v247 : BitVec 32 := Scalar.muli v2 c2_i32_150
  let v248 : BitVec 32 := Scalar.addi c0_i32_151 v247
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_152 : BitVec 32 := 1#32
  let v249 : BitVec 32 := Scalar.muli v6 c1_i32_152
  let v250 : BitVec 32 := Scalar.addi v248 v249
  v250.toNat
def k0_dev23 (d0 : Dev nD) : Nat :=
  let c0_i32_158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_157 : BitVec 32 := 2#32
  let v259 : BitVec 32 := Scalar.muli v2 c2_i32_157
  let v260 : BitVec 32 := Scalar.addi c0_i32_158 v259
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_159 : BitVec 32 := 1#32
  let v261 : BitVec 32 := Scalar.muli v6 c1_i32_159
  let v262 : BitVec 32 := Scalar.addi v260 v261
  v262.toNat
def k0_dev24 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v271 : BitVec 32 := Scalar.muli v2 c2_i32_164
  let v272 : BitVec 32 := Scalar.addi c0_i32_165 v271
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v273 : BitVec 32 := Scalar.muli v6 c1_i32_166
  let v274 : BitVec 32 := Scalar.addi v272 v273
  v274.toNat
def k0_dev25 (d0 : Dev nD) : Nat :=
  let c0_i32_172 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_171 : BitVec 32 := 2#32
  let v283 : BitVec 32 := Scalar.muli v2 c2_i32_171
  let v284 : BitVec 32 := Scalar.addi c0_i32_172 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_173 : BitVec 32 := 1#32
  let v285 : BitVec 32 := Scalar.muli v6 c1_i32_173
  let v286 : BitVec 32 := Scalar.addi v284 v285
  v286.toNat
def k0_dev26 (d0 : Dev nD) : Nat :=
  let c0_i32_179 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_178 : BitVec 32 := 2#32
  let v295 : BitVec 32 := Scalar.muli v2 c2_i32_178
  let v296 : BitVec 32 := Scalar.addi c0_i32_179 v295
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_180 : BitVec 32 := 1#32
  let v297 : BitVec 32 := Scalar.muli v6 c1_i32_180
  let v298 : BitVec 32 := Scalar.addi v296 v297
  v298.toNat
def k0_dev27 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v307 : BitVec 32 := Scalar.muli v2 c2_i32_185
  let v308 : BitVec 32 := Scalar.addi c0_i32_186 v307
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v309 : BitVec 32 := Scalar.muli v6 c1_i32_187
  let v310 : BitVec 32 := Scalar.addi v308 v309
  v310.toNat
def k0_dev28 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v319 : BitVec 32 := Scalar.muli v2 c2_i32_192
  let v320 : BitVec 32 := Scalar.addi c0_i32_193 v319
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_194 : BitVec 32 := 1#32
  let v321 : BitVec 32 := Scalar.muli v6 c1_i32_194
  let v322 : BitVec 32 := Scalar.addi v320 v321
  v322.toNat
def k0_dev29 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v331 : BitVec 32 := Scalar.muli v2 c2_i32_199
  let v332 : BitVec 32 := Scalar.addi c0_i32_200 v331
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_201 : BitVec 32 := 1#32
  let v333 : BitVec 32 := Scalar.muli v6 c1_i32_201
  let v334 : BitVec 32 := Scalar.addi v332 v333
  v334.toNat
def k0_dev30 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v343 : BitVec 32 := Scalar.muli v2 c2_i32_206
  let v344 : BitVec 32 := Scalar.addi c0_i32_207 v343
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_208 : BitVec 32 := 1#32
  let v345 : BitVec 32 := Scalar.muli v6 c1_i32_208
  let v346 : BitVec 32 := Scalar.addi v344 v345
  v346.toNat
def k0_dev31 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_213 : BitVec 32 := 2#32
  let v355 : BitVec 32 := Scalar.muli v2 c2_i32_213
  let v356 : BitVec 32 := Scalar.addi c0_i32_214 v355
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_215 : BitVec 32 := 1#32
  let v357 : BitVec 32 := Scalar.muli v6 c1_i32_215
  let v358 : BitVec 32 := Scalar.addi v356 v357
  v358.toNat
def k0_dev32 (d0 : Dev nD) : Nat :=
  let c0_i32_221 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_220 : BitVec 32 := 2#32
  let v367 : BitVec 32 := Scalar.muli v2 c2_i32_220
  let v368 : BitVec 32 := Scalar.addi c0_i32_221 v367
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_222 : BitVec 32 := 1#32
  let v369 : BitVec 32 := Scalar.muli v6 c1_i32_222
  let v370 : BitVec 32 := Scalar.addi v368 v369
  v370.toNat
def k0_dev33 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v379 : BitVec 32 := Scalar.muli v2 c2_i32_227
  let v380 : BitVec 32 := Scalar.addi c0_i32_228 v379
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_229 : BitVec 32 := 1#32
  let v381 : BitVec 32 := Scalar.muli v6 c1_i32_229
  let v382 : BitVec 32 := Scalar.addi v380 v381
  v382.toNat
def k0_dev34 (d0 : Dev nD) : Nat :=
  let c0_i32_235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_234 : BitVec 32 := 2#32
  let v391 : BitVec 32 := Scalar.muli v2 c2_i32_234
  let v392 : BitVec 32 := Scalar.addi c0_i32_235 v391
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_236 : BitVec 32 := 1#32
  let v393 : BitVec 32 := Scalar.muli v6 c1_i32_236
  let v394 : BitVec 32 := Scalar.addi v392 v393
  v394.toNat
def k0_dev35 (d0 : Dev nD) : Nat :=
  let c0_i32_251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_250 : BitVec 32 := 2#32
  let v411 : BitVec 32 := Scalar.muli v7 c2_i32_250
  let v412 : BitVec 32 := Scalar.addi c0_i32_251 v411
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v413 : BitVec 32 := Scalar.muli v5 c1_i32_252
  let v414 : BitVec 32 := Scalar.addi v412 v413
  v414.toNat
def k0_off2 (d0 : Dev nD) (c0_i32_267 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c32768_i32 : BitVec 32 := 32768#32
  let v431 : BitVec 32 := Scalar.muli v5 c32768_i32
  let v432 : BitVec 32 := Scalar.addi v431 c0_i32_267
  let c0_i32_270 : BitVec 32 := 0#32
  ![v432.toNat, 0]
def k0_off3 (d0 : Dev nD) (c0_i32_287 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c32768_i32_285 : BitVec 32 := 32768#32
  let v450 : BitVec 32 := Scalar.muli v6 c32768_i32_285
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_286 : BitVec 32 := 16384#32
  let v451 : BitVec 32 := Scalar.muli v2 c16384_i32_286
  let v452 : BitVec 32 := Scalar.addi v450 v451
  let v453 : BitVec 32 := Scalar.addi v452 c0_i32_287
  let c0_i32_290 : BitVec 32 := 0#32
  ![v453.toNat, 0]
def k0_dev36 (d0 : Dev nD) : Nat :=
  let c0_i32_305 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_304 : BitVec 32 := 2#32
  let v469 : BitVec 32 := Scalar.muli v7 c2_i32_304
  let v470 : BitVec 32 := Scalar.addi c0_i32_305 v469
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_306 : BitVec 32 := 1#32
  let v471 : BitVec 32 := Scalar.muli v5 c1_i32_306
  let v472 : BitVec 32 := Scalar.addi v470 v471
  v472.toNat
def k0_dev37 (d0 : Dev nD) : Nat :=
  let c0_i32_341 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_340 : BitVec 32 := 2#32
  let v510 : BitVec 32 := Scalar.muli v7 c2_i32_340
  let v511 : BitVec 32 := Scalar.addi c0_i32_341 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v512 : BitVec 32 := Scalar.muli v5 c1_i32_342
  let v513 : BitVec 32 := Scalar.addi v511 v512
  v513.toNat
def k0_dev38 (d0 : Dev nD) : Nat :=
  let c0_i32_401 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_400 : BitVec 32 := 2#32
  let v573 : BitVec 32 := Scalar.muli v7 c2_i32_400
  let v574 : BitVec 32 := Scalar.addi c0_i32_401 v573
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_402 : BitVec 32 := 1#32
  let v575 : BitVec 32 := Scalar.muli v5 c1_i32_402
  let v576 : BitVec 32 := Scalar.addi v574 v575
  v576.toNat
def k0_dev39 (d0 : Dev nD) : Nat :=
  let c0_i32_442 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_441 : BitVec 32 := 2#32
  let v619 : BitVec 32 := Scalar.muli v7 c2_i32_441
  let v620 : BitVec 32 := Scalar.addi c0_i32_442 v619
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_443 : BitVec 32 := 1#32
  let v621 : BitVec 32 := Scalar.muli v5 c1_i32_443
  let v622 : BitVec 32 := Scalar.addi v620 v621
  v622.toNat
def k0_dev40 (d0 : Dev nD) : Nat :=
  let c0_i32_507 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_506 : BitVec 32 := 2#32
  let v687 : BitVec 32 := Scalar.muli v7 c2_i32_506
  let v688 : BitVec 32 := Scalar.addi c0_i32_507 v687
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_508 : BitVec 32 := 1#32
  let v689 : BitVec 32 := Scalar.muli v5 c1_i32_508
  let v690 : BitVec 32 := Scalar.addi v688 v689
  v690.toNat
def k0_dev41 (d0 : Dev nD) : Nat :=
  let c0_i32_548 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_547 : BitVec 32 := 2#32
  let v733 : BitVec 32 := Scalar.muli v7 c2_i32_547
  let v734 : BitVec 32 := Scalar.addi c0_i32_548 v733
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_549 : BitVec 32 := 1#32
  let v735 : BitVec 32 := Scalar.muli v5 c1_i32_549
  let v736 : BitVec 32 := Scalar.addi v734 v735
  v736.toNat
def k0_dev42 (d0 : Dev nD) : Nat :=
  let c0_i32_613 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_612 : BitVec 32 := 2#32
  let v801 : BitVec 32 := Scalar.muli v7 c2_i32_612
  let v802 : BitVec 32 := Scalar.addi c0_i32_613 v801
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_614 : BitVec 32 := 1#32
  let v803 : BitVec 32 := Scalar.muli v5 c1_i32_614
  let v804 : BitVec 32 := Scalar.addi v802 v803
  v804.toNat
def k0_dev43 (d0 : Dev nD) : Nat :=
  let c0_i32_654 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_653 : BitVec 32 := 2#32
  let v847 : BitVec 32 := Scalar.muli v7 c2_i32_653
  let v848 : BitVec 32 := Scalar.addi c0_i32_654 v847
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_655 : BitVec 32 := 1#32
  let v849 : BitVec 32 := Scalar.muli v5 c1_i32_655
  let v850 : BitVec 32 := Scalar.addi v848 v849
  v850.toNat
def k0_dev44 (d0 : Dev nD) : Nat :=
  let c0_i32_719 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_718 : BitVec 32 := 2#32
  let v915 : BitVec 32 := Scalar.muli v7 c2_i32_718
  let v916 : BitVec 32 := Scalar.addi c0_i32_719 v915
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_720 : BitVec 32 := 1#32
  let v917 : BitVec 32 := Scalar.muli v5 c1_i32_720
  let v918 : BitVec 32 := Scalar.addi v916 v917
  v918.toNat
def k0_dev45 (d0 : Dev nD) : Nat :=
  let c0_i32_760 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_759 : BitVec 32 := 2#32
  let v961 : BitVec 32 := Scalar.muli v7 c2_i32_759
  let v962 : BitVec 32 := Scalar.addi c0_i32_760 v961
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_761 : BitVec 32 := 1#32
  let v963 : BitVec 32 := Scalar.muli v5 c1_i32_761
  let v964 : BitVec 32 := Scalar.addi v962 v963
  v964.toNat
def k0_dev46 (d0 : Dev nD) : Nat :=
  let c0_i32_825 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_824 : BitVec 32 := 2#32
  let v1029 : BitVec 32 := Scalar.muli v7 c2_i32_824
  let v1030 : BitVec 32 := Scalar.addi c0_i32_825 v1029
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_826 : BitVec 32 := 1#32
  let v1031 : BitVec 32 := Scalar.muli v5 c1_i32_826
  let v1032 : BitVec 32 := Scalar.addi v1030 v1031
  v1032.toNat
def k0_dev47 (d0 : Dev nD) : Nat :=
  let c0_i32_866 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_865 : BitVec 32 := 2#32
  let v1075 : BitVec 32 := Scalar.muli v7 c2_i32_865
  let v1076 : BitVec 32 := Scalar.addi c0_i32_866 v1075
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_867 : BitVec 32 := 1#32
  let v1077 : BitVec 32 := Scalar.muli v5 c1_i32_867
  let v1078 : BitVec 32 := Scalar.addi v1076 v1077
  v1078.toNat
def k0_dev48 (d0 : Dev nD) : Nat :=
  let c0_i32_931 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_930 : BitVec 32 := 2#32
  let v1143 : BitVec 32 := Scalar.muli v7 c2_i32_930
  let v1144 : BitVec 32 := Scalar.addi c0_i32_931 v1143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_932 : BitVec 32 := 1#32
  let v1145 : BitVec 32 := Scalar.muli v5 c1_i32_932
  let v1146 : BitVec 32 := Scalar.addi v1144 v1145
  v1146.toNat
def k0_dev49 (d0 : Dev nD) : Nat :=
  let c0_i32_972 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_971 : BitVec 32 := 2#32
  let v1189 : BitVec 32 := Scalar.muli v7 c2_i32_971
  let v1190 : BitVec 32 := Scalar.addi c0_i32_972 v1189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_973 : BitVec 32 := 1#32
  let v1191 : BitVec 32 := Scalar.muli v5 c1_i32_973
  let v1192 : BitVec 32 := Scalar.addi v1190 v1191
  v1192.toNat
def k0_dev50 (d0 : Dev nD) : Nat :=
  let c0_i32_1037 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1036 : BitVec 32 := 2#32
  let v1257 : BitVec 32 := Scalar.muli v7 c2_i32_1036
  let v1258 : BitVec 32 := Scalar.addi c0_i32_1037 v1257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1038 : BitVec 32 := 1#32
  let v1259 : BitVec 32 := Scalar.muli v5 c1_i32_1038
  let v1260 : BitVec 32 := Scalar.addi v1258 v1259
  v1260.toNat
def k0_dev51 (d0 : Dev nD) : Nat :=
  let c0_i32_1078 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1077 : BitVec 32 := 2#32
  let v1303 : BitVec 32 := Scalar.muli v7 c2_i32_1077
  let v1304 : BitVec 32 := Scalar.addi c0_i32_1078 v1303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1079 : BitVec 32 := 1#32
  let v1305 : BitVec 32 := Scalar.muli v5 c1_i32_1079
  let v1306 : BitVec 32 := Scalar.addi v1304 v1305
  v1306.toNat
def k0_dev52 (d0 : Dev nD) : Nat :=
  let c0_i32_1143 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1142 : BitVec 32 := 2#32
  let v1371 : BitVec 32 := Scalar.muli v7 c2_i32_1142
  let v1372 : BitVec 32 := Scalar.addi c0_i32_1143 v1371
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1144 : BitVec 32 := 1#32
  let v1373 : BitVec 32 := Scalar.muli v5 c1_i32_1144
  let v1374 : BitVec 32 := Scalar.addi v1372 v1373
  v1374.toNat
def k0_dev53 (d0 : Dev nD) : Nat :=
  let c0_i32_1184 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1183 : BitVec 32 := 2#32
  let v1417 : BitVec 32 := Scalar.muli v7 c2_i32_1183
  let v1418 : BitVec 32 := Scalar.addi c0_i32_1184 v1417
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1185 : BitVec 32 := 1#32
  let v1419 : BitVec 32 := Scalar.muli v5 c1_i32_1185
  let v1420 : BitVec 32 := Scalar.addi v1418 v1419
  v1420.toNat
def k0_dev54 (d0 : Dev nD) : Nat :=
  let c0_i32_1248 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1247 : BitVec 32 := 2#32
  let v1485 : BitVec 32 := Scalar.muli v7 c2_i32_1247
  let v1486 : BitVec 32 := Scalar.addi c0_i32_1248 v1485
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1249 : BitVec 32 := 1#32
  let v1487 : BitVec 32 := Scalar.muli v5 c1_i32_1249
  let v1488 : BitVec 32 := Scalar.addi v1486 v1487
  v1488.toNat
def k0_dev55 (d0 : Dev nD) : Nat :=
  let c0_i32_1289 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1288 : BitVec 32 := 2#32
  let v1531 : BitVec 32 := Scalar.muli v7 c2_i32_1288
  let v1532 : BitVec 32 := Scalar.addi c0_i32_1289 v1531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1290 : BitVec 32 := 1#32
  let v1533 : BitVec 32 := Scalar.muli v5 c1_i32_1290
  let v1534 : BitVec 32 := Scalar.addi v1532 v1533
  v1534.toNat
def k0_dev56 (d0 : Dev nD) : Nat :=
  let c0_i32_1353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1352 : BitVec 32 := 2#32
  let v1599 : BitVec 32 := Scalar.muli v7 c2_i32_1352
  let v1600 : BitVec 32 := Scalar.addi c0_i32_1353 v1599
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1354 : BitVec 32 := 1#32
  let v1601 : BitVec 32 := Scalar.muli v5 c1_i32_1354
  let v1602 : BitVec 32 := Scalar.addi v1600 v1601
  v1602.toNat
def k0_dev57 (d0 : Dev nD) : Nat :=
  let c0_i32_1394 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1393 : BitVec 32 := 2#32
  let v1645 : BitVec 32 := Scalar.muli v7 c2_i32_1393
  let v1646 : BitVec 32 := Scalar.addi c0_i32_1394 v1645
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1395 : BitVec 32 := 1#32
  let v1647 : BitVec 32 := Scalar.muli v5 c1_i32_1395
  let v1648 : BitVec 32 := Scalar.addi v1646 v1647
  v1648.toNat
def k0_dev58 (d0 : Dev nD) : Nat :=
  let c0_i32_1458 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1457 : BitVec 32 := 2#32
  let v1713 : BitVec 32 := Scalar.muli v7 c2_i32_1457
  let v1714 : BitVec 32 := Scalar.addi c0_i32_1458 v1713
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1459 : BitVec 32 := 1#32
  let v1715 : BitVec 32 := Scalar.muli v5 c1_i32_1459
  let v1716 : BitVec 32 := Scalar.addi v1714 v1715
  v1716.toNat
def k0_dev59 (d0 : Dev nD) : Nat :=
  let c0_i32_1499 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1498 : BitVec 32 := 2#32
  let v1759 : BitVec 32 := Scalar.muli v7 c2_i32_1498
  let v1760 : BitVec 32 := Scalar.addi c0_i32_1499 v1759
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1500 : BitVec 32 := 1#32
  let v1761 : BitVec 32 := Scalar.muli v5 c1_i32_1500
  let v1762 : BitVec 32 := Scalar.addi v1760 v1761
  v1762.toNat
def k0_dev60 (d0 : Dev nD) : Nat :=
  let c0_i32_1563 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1562 : BitVec 32 := 2#32
  let v1827 : BitVec 32 := Scalar.muli v7 c2_i32_1562
  let v1828 : BitVec 32 := Scalar.addi c0_i32_1563 v1827
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1564 : BitVec 32 := 1#32
  let v1829 : BitVec 32 := Scalar.muli v5 c1_i32_1564
  let v1830 : BitVec 32 := Scalar.addi v1828 v1829
  v1830.toNat
def k0_dev61 (d0 : Dev nD) : Nat :=
  let c0_i32_1604 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1603 : BitVec 32 := 2#32
  let v1873 : BitVec 32 := Scalar.muli v7 c2_i32_1603
  let v1874 : BitVec 32 := Scalar.addi c0_i32_1604 v1873
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1605 : BitVec 32 := 1#32
  let v1875 : BitVec 32 := Scalar.muli v5 c1_i32_1605
  let v1876 : BitVec 32 := Scalar.addi v1874 v1875
  v1876.toNat
def k0_dev62 (d0 : Dev nD) : Nat :=
  let c0_i32_1668 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1667 : BitVec 32 := 2#32
  let v1941 : BitVec 32 := Scalar.muli v7 c2_i32_1667
  let v1942 : BitVec 32 := Scalar.addi c0_i32_1668 v1941
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1669 : BitVec 32 := 1#32
  let v1943 : BitVec 32 := Scalar.muli v5 c1_i32_1669
  let v1944 : BitVec 32 := Scalar.addi v1942 v1943
  v1944.toNat
def k0_dev63 (d0 : Dev nD) : Nat :=
  let c0_i32_1709 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1708 : BitVec 32 := 2#32
  let v1987 : BitVec 32 := Scalar.muli v7 c2_i32_1708
  let v1988 : BitVec 32 := Scalar.addi c0_i32_1709 v1987
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1710 : BitVec 32 := 1#32
  let v1989 : BitVec 32 := Scalar.muli v5 c1_i32_1710
  let v1990 : BitVec 32 := Scalar.addi v1988 v1989
  v1990.toNat
def k0_dev64 (d0 : Dev nD) : Nat :=
  let c0_i32_1773 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1772 : BitVec 32 := 2#32
  let v2055 : BitVec 32 := Scalar.muli v7 c2_i32_1772
  let v2056 : BitVec 32 := Scalar.addi c0_i32_1773 v2055
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1774 : BitVec 32 := 1#32
  let v2057 : BitVec 32 := Scalar.muli v5 c1_i32_1774
  let v2058 : BitVec 32 := Scalar.addi v2056 v2057
  v2058.toNat
def k0_dev65 (d0 : Dev nD) : Nat :=
  let c0_i32_1814 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1813 : BitVec 32 := 2#32
  let v2101 : BitVec 32 := Scalar.muli v7 c2_i32_1813
  let v2102 : BitVec 32 := Scalar.addi c0_i32_1814 v2101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1815 : BitVec 32 := 1#32
  let v2103 : BitVec 32 := Scalar.muli v5 c1_i32_1815
  let v2104 : BitVec 32 := Scalar.addi v2102 v2103
  v2104.toNat
def k0_dev66 (d0 : Dev nD) : Nat :=
  let c0_i32_1878 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1877 : BitVec 32 := 2#32
  let v2169 : BitVec 32 := Scalar.muli v7 c2_i32_1877
  let v2170 : BitVec 32 := Scalar.addi c0_i32_1878 v2169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1879 : BitVec 32 := 1#32
  let v2171 : BitVec 32 := Scalar.muli v5 c1_i32_1879
  let v2172 : BitVec 32 := Scalar.addi v2170 v2171
  v2172.toNat
def k0_off4 (d0 : Dev nD) (c0_i32_1915 : BitVec 32) : Fin 2 → Nat :=
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c16384_i32_1914 : BitVec 32 := 16384#32
  let v2213 : BitVec 32 := Scalar.muli v7 c16384_i32_1914
  let v2214 : BitVec 32 := Scalar.addi v2213 c0_i32_1915
  let c0_i32_1920 : BitVec 32 := 0#32
  ![v2214.toNat, 0]
def k0_off5 (d0 : Dev nD) (c0_i32_1928 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c32768_i32_1926 : BitVec 32 := 32768#32
  let v2225 : BitVec 32 := Scalar.muli v6 c32768_i32_1926
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c16384_i32_1927 : BitVec 32 := 16384#32
  let v2226 : BitVec 32 := Scalar.muli v7 c16384_i32_1927
  let v2227 : BitVec 32 := Scalar.addi v2225 v2226
  let v2228 : BitVec 32 := Scalar.addi v2227 c0_i32_1928
  let c0_i32_1931 : BitVec 32 := 0#32
  ![v2228.toNat, 0]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Body.lean ====
/- The kernel's body as a structured program: three stagers that copy chunks into the result through two slots
   each, the sends along the two mesh axes, and loops over the chunk numbers in place of the printed statements.
   The last theorem says that the printed body is this program. -/
module

public import proofs.«01_k».proof.Proof.Gen.KernelIdeal.Skeleton
public import Idealize.ShloMosaic.Lib.Pipeline.Regions

@[expose] public section

noncomputable section

namespace Cert.KernelIdeal.AllGather

open Idealize.ShloMosaic Idealize.SL.Sem Cert.KernelIdeal Cert.KernelIdeal.Gen

variable {F : FTy → Type} [FloatOps F]

/-! ## Buffers and their chunks -/

/-- A buffer in HBM of some rows by 1024 columns, or a view of one. -/
abbrev Hbm (S : Shape) := Memref sig .tc .hbm S .f32
/-- A buffer on chip, or a view of one. -/
abbrev Vmem (S : Shape) := Memref sig .tc .vmem S .f32

/-- The device's block of the input. -/
abbrev xB : Hbm S32768x1024 := Memref.whole main_arg0
/-- The gathered result. -/
abbrev outB : Hbm S65536x1024 := Memref.whole main_v1_0
/-- The buffer the other devices send into. -/
abbrev commB : Hbm S32768x1024 := Memref.whole main_v1_1

/-- The word of row `512 c`. -/
abbrev w (c : Fin 32) : BitVec 32 := BitVec.ofNat 32 (512 * c.val)
/-- The word of row `2048 c`. -/
abbrev wl (c : Fin 16) : BitVec 32 := BitVec.ofNat 32 (2048 * c.val)

/-- Chunk `c` of the half of the input block that device `d` sends along "y". -/
abbrev xC (d : Dev nD) (c : Fin 32) : Hbm S512x1024 :=
  xB.slice (Rect.unit (s := S32768x1024) (k0_off1 d (w c)) S512x1024.size (k0_off1_inb d c)) (fun _ => rfl)
/-- Chunk `c` of the half of the receive buffer that arrives along "y". -/
abbrev commC (d : Dev nD) (c : Fin 32) : Hbm S512x1024 :=
  commB.slice (Rect.unit (s := S32768x1024) (k0_off1 d (w c)) S512x1024.size (k0_off1_inb d c)) (fun _ => rfl)
/-- Chunk `c` of the half of the receive buffer that arrives along "x". -/
abbrev commO (d : Dev nD) (c : Fin 32) : Hbm S512x1024 :=
  commB.slice (Rect.unit (s := S32768x1024) (k0_off4 d (w c)) S512x1024.size (k0_off4_inb d c)) (fun _ => rfl)

/-- The first row of a large chunk stays inside the input block. -/
theorem own_inb (c : Fin 16) : ∀ a, (![2048 * c.val, 0] : Fin 2 → Nat) a + S2048x1024.size a ≤ S32768x1024.size a := by
  revert c; decide +kernel

/-- Large chunk `c` of the input block. -/
abbrev xL (c : Fin 16) : Hbm S2048x1024 :=
  xB.slice (Rect.unit (s := S32768x1024) ![2048 * c.val, 0] S2048x1024.size (own_inb c)) (fun _ => rfl)
/-- Where large chunk `c` of the device's own block goes in the result. -/
abbrev outL (d : Dev nD) (c : Fin 16) : Hbm S2048x1024 :=
  outB.slice (Rect.unit (s := S65536x1024) (k0_off2 d (wl c)) S2048x1024.size (k0_off2_inb d c)) (fun _ => rfl)
/-- Where chunk `c` received along "y" goes in the result. -/
abbrev outY (d : Dev nD) (c : Fin 32) : Hbm S512x1024 :=
  outB.slice (Rect.unit (s := S65536x1024) (k0_off3 d (w c)) S512x1024.size (k0_off3_inb d c)) (fun _ => rfl)
/-- Where chunk `c` received along "x" goes in the result. -/
abbrev outX (d : Dev nD) (c : Fin 32) : Hbm S512x1024 :=
  outB.slice (Rect.unit (s := S65536x1024) (k0_off5 d (w c)) S512x1024.size (k0_off5_inb d c)) (fun _ => rfl)

/-! ## Semaphores -/

/-- A semaphore of a pair, and of a row of thirty-two, is inside its array. -/
theorem pair_inb (i : Fin 2) : ∀ a, (![i.val] : Fin 1 → Nat) a + S1.size a ≤ S2.size a := by
  revert i; decide +kernel
theorem row_inb (c : Fin 32) : ∀ a, (![c.val] : Fin 1 → Nat) a + S1.size a ≤ S32.size a := by
  revert c; decide +kernel

/-- Semaphore `i` of a pair. -/
abbrev pairSem (A : DmaSems sig S2) (i : Fin 2) : DmaSem sig :=
  ((A.slice (Rect.unit (s := S2) ![i.val] S1.size (pair_inb i))).squeeze S_ squeezes_S1_S_).sem
/-- Semaphore `c` of a row of thirty-two. -/
abbrev rowSem (A : DmaSems sig S32) (c : Fin 32) : DmaSem sig :=
  ((A.slice (Rect.unit (s := S32) ![c.val] S1.size (row_inb c))).squeeze S_ squeezes_S1_S_).sem

/-- The barrier semaphore. -/
abbrev barS : Sem sig := (SemArray.scalar (sig.barrier 0 rfl) : Sems sig S_).sem

/-! ## Stagers -/

/-- Either slot is inside its buffer. -/
theorem slotL_inb (i : Fin 2) : ∀ a, (![i.val, 0, 0] : Fin 3 → Nat) a + S1x2048x1024.size a ≤ S2x2048x1024.size a := by
  revert i; decide +kernel
theorem slotC_inb (i : Fin 2) : ∀ a, (![i.val, 0, 0] : Fin 3 → Nat) a + S1x512x1024.size a ≤ S2x512x1024.size a := by
  revert i; decide +kernel

/-- Slot `i` of the buffer for large chunks. -/
abbrev slotL (b : Vmem S2x2048x1024) (i : Fin 2) : Vmem S2048x1024 :=
  (b.slice (Rect.unit (s := S2x2048x1024) ![i.val, 0, 0] S1x2048x1024.size (slotL_inb i)) (fun _ => rfl)).squeeze
    S2048x1024 squeezes_S1x2048x1024_S2048x1024
/-- Slot `i` of a buffer for small chunks. -/
abbrev slotC (b : Vmem S2x512x1024) (i : Fin 2) : Vmem S512x1024 :=
  (b.slice (Rect.unit (s := S2x512x1024) ![i.val, 0, 0] S1x512x1024.size (slotC_inb i)) (fun _ => rfl)).squeeze
    S512x1024 squeezes_S1x512x1024_S512x1024

/-- What copies `n` chunks of shape `S` from HBM to HBM through two slots on chip: the chunks' sources and destinations,
    the slots, and each slot's two semaphores. -/
structure Stager (n : ℕ) (S : Shape) where
  src : Fin n → Hbm S
  dst : Fin n → Hbm S
  slot : Fin 2 → Vmem S
  isem : Fin 2 → DmaSem sig
  osem : Fin 2 → DmaSem sig
  hsrc : ∀ c, (src c).view.WordExact
  hdst : ∀ c, (dst c).view.WordExact
  hslot : ∀ i, (slot i).view.WordExact

/-- The slot of the chunk with number `k`. -/
abbrev par (k : ℕ) : Fin 2 := ⟨k % 2, Nat.mod_lt _ (by decide)⟩

namespace Stager
variable {n : ℕ} {S : Shape} (St : Stager n S)

/-- Copy the chunk into its slot. -/
abbrev load (k : ℕ) (h : k < n) : Prog (TpuEff nD τ sig (Elt F) Λ₀ .tc) PUnit :=
  Prog.lift (.enqueueDma (St.src ⟨k, h⟩) (.here (St.slot (par k))) (.dma (St.isem (par k))) (St.hsrc _) (St.hslot _) ⟨Or.inl rfl, trivial⟩)
/-- Wait for it. -/
abbrev waitLoad (k : ℕ) (h : k < n) : Prog (TpuEff nD τ sig (Elt F) Λ₀ .tc) PUnit :=
  Prog.lift (.waitDma2 (St.isem (par k)) (St.src ⟨k, h⟩) (St.slot (par k)) (St.hsrc _) (St.hslot _))
/-- Copy the slot to the chunk's destination. -/
abbrev store (k : ℕ) (h : k < n) : Prog (TpuEff nD τ sig (Elt F) Λ₀ .tc) PUnit :=
  Prog.lift (.enqueueDma (St.slot (par k)) (.here (St.dst ⟨k, h⟩)) (.dma (St.osem (par k))) (St.hslot _) (St.hdst _) ⟨Or.inl rfl, trivial⟩)
/-- Wait for it. -/
abbrev waitStore (k : ℕ) (h : k < n) : Prog (TpuEff nD τ sig (Elt F) Λ₀ .tc) PUnit :=
  Prog.lift (.waitDma2 (St.osem (par k)) (St.slot (par k)) (St.dst ⟨k, h⟩) (St.hslot _) (St.hdst _))

/-- Load chunk `k` into its slot, wait, and start its store, after the store two chunks back from the same slot. -/
def push : (k : ℕ) → k < n → Prog (TpuEff nD τ sig (Elt F) Λ₀ .tc) PUnit
  | 0, h => do St.load 0 h; St.waitLoad 0 h; St.store 0 h
  | 1, h => do St.load 1 h; St.waitLoad 1 h; St.store 1 h
  | k + 2, h => do
    St.waitStore k (Nat.lt_of_le_of_lt (Nat.le_add_right k 2) h)
    St.load (k + 2) h; St.waitLoad (k + 2) h; St.store (k + 2) h

end Stager

/-- The stager of the device's own block. -/
abbrev own (d : Dev nD) : Stager 16 S2048x1024 where
  src := xL
  dst := outL d
  slot := slotL (Memref.whole cc0_scratch0)
  isem := pairSem cc0_scratch1
  osem := pairSem cc0_scratch2
  hsrc _ := View.wordExact_bits rfl
  hdst _ := View.wordExact_bits rfl
  hslot _ := (View.wordExact_bits rfl).reshape _ _

/-- The stager of the chunks received along "y". -/
abbrev stY (d : Dev nD) : Stager 32 S512x1024 where
  src := commC d
  dst := outY d
  slot := slotC (Memref.whole cc0_scratch3)
  isem := pairSem cc0_scratch4
  osem := pairSem cc0_scratch5
  hsrc _ := View.wordExact_bits rfl
  hdst _ := View.wordExact_bits rfl
  hslot _ := (View.wordExact_bits rfl).reshape _ _

/-- The stager of the chunks received along "x". -/
abbrev stX (d : Dev nD) : Stager 32 S512x1024 where
  src := commO d
  dst := outX d
  slot := slotC (Memref.whole cc0_scratch6)
  isem := pairSem cc0_scratch7
  osem := pairSem cc0_scratch8
  hsrc _ := View.wordExact_bits rfl
  hdst _ := View.wordExact_bits rfl
  hslot _ := (View.wordExact_bits rfl).reshape _ _

/-! ## The sends and their waits -/

/-- The neighbour along "y". -/
abbrev pY (d : Dev nD) : Dev nD := ⟨k0_dev1 d, k0_dev1_lt d⟩
/-- The neighbour along "x". -/
abbrev pX (d : Dev nD) : Dev nD := ⟨k0_dev2 d, k0_dev2_lt d⟩

abbrev ySend (c : Fin 32) : DmaSem sig := rowSem cc0_scratch9 c
abbrev yRecv (c : Fin 32) : DmaSem sig := rowSem cc0_scratch10 c
abbrev xSend (c : Fin 32) : DmaSem sig := rowSem cc0_scratch11 c
abbrev xRecv (c : Fin 32) : DmaSem sig := rowSem cc0_scratch12 c

/-- Send chunk `c` of the input block along "y". -/
abbrev sendY (d : Dev nD) (c : Fin 32) : Prog (TpuEff nD τ sig (Elt F) Λ₀ .tc) PUnit :=
  Prog.lift (.enqueueDma (xC d c) (.remote (Dev.tc (pY d)) (commC d c) (.dma (ySend c))) (.dma (yRecv c))
    (View.wordExact_bits rfl) (View.wordExact_bits rfl) ⟨⟨rfl, Or.inl rfl⟩, trivial⟩)
/-- Wait for the chunk arriving along "y". -/
abbrev waitY (d : Dev nD) (c : Fin 32) : Prog (TpuEff nD τ sig (Elt F) Λ₀ .tc) PUnit :=
  Prog.lift (.waitDma2 (yRecv c) (xC d c) (commC d c) (View.wordExact_bits rfl) (View.wordExact_bits rfl))
/-- Forward it along "x". -/
abbrev sendX (d : Dev nD) (c : Fin 32) : Prog (TpuEff nD τ sig (Elt F) Λ₀ .tc) PUnit :=
  Prog.lift (.enqueueDma (commC d c) (.remote (Dev.tc (pX d)) (commC d c) (.dma (xSend c))) (.dma (xRecv c))
    (View.wordExact_bits rfl) (View.wordExact_bits rfl) ⟨⟨rfl, Or.inl rfl⟩, trivial⟩)
/-- Wait for the chunk arriving along "x". -/
abbrev waitX (d : Dev nD) (c : Fin 32) : Prog (TpuEff nD τ sig (Elt F) Λ₀ .tc) PUnit :=
  Prog.lift (.waitDma2 (xRecv c) (commC d c) (commC d c) (View.wordExact_bits rfl) (View.wordExact_bits rfl))
/-- Wait until the send along "y" has left. -/
abbrev waitSentY (d : Dev nD) (c : Fin 32) : Prog (TpuEff nD τ sig (Elt F) Λ₀ .tc) PUnit :=
  Prog.lift (.waitDma2 (ySend c) (commC d c) (xC d c) (View.wordExact_bits rfl) (View.wordExact_bits rfl))
/-- Wait until the send along "x" has left. -/
abbrev waitSentX (d : Dev nD) (c : Fin 32) : Prog (TpuEff nD τ sig (Elt F) Λ₀ .tc) PUnit :=
  Prog.lift (.waitDma2 (xSend c) (commC d c) (commC d c) (View.wordExact_bits rfl) (View.wordExact_bits rfl))

/-! ## The body -/

/-- The programs `f k, f (k + 1), …`, `j` of them, one after another, below `n`. -/
def loop (n : ℕ) (f : (k : ℕ) → k < n → Prog (TpuEff nD τ sig (Elt F) Λ₀ .tc) PUnit) :
    (j k : ℕ) → k + j = n → Prog (TpuEff nD τ sig (Elt F) Λ₀ .tc) PUnit
  | 0, _, _ => pure ⟨⟩
  | j + 1, k, h => do
    f k (by omega)
    loop n f j (k + 1) (by omega)

/-- Two chunks of the first phase: each is awaited, forwarded along "x" and pushed to the result, and with the first
    goes one large chunk of the device's own block. -/
def pairStep (d : Dev nD) (k : ℕ) (h : k < 16) : Prog (TpuEff nD τ sig (Elt F) Λ₀ .tc) PUnit := do
  waitY d ⟨2 * k, by omega⟩
  sendX d ⟨2 * k, by omega⟩
  (own d).push k h
  (stY d).push (2 * k) (by omega)
  waitY d ⟨2 * k + 1, by omega⟩
  sendX d ⟨2 * k + 1, by omega⟩
  (stY d).push (2 * k + 1) (by omega)

/-- A chunk of the second phase: awaited, and pushed to the result. -/
def xStep (d : Dev nD) (k : ℕ) (h : k < 32) : Prog (TpuEff nD τ sig (Elt F) Λ₀ .tc) PUnit := do
  waitX d ⟨k, h⟩
  (stX d).push k h

/-- The two waits for a chunk's sends. -/
def sentStep (d : Dev nD) (k : ℕ) (h : k < 32) : Prog (TpuEff nD τ sig (Elt F) Λ₀ .tc) PUnit := do
  waitSentY d ⟨k, h⟩
  waitSentX d ⟨k, h⟩

/-- The kernel's body. -/
def body : Prog (TpuEff nD τ sig (Elt F) Λ₀ .tc) PUnit := do
  let d : Dev nD ← Prog.lift .deviceId
  semSignalWord (pY d) barS 1#32
  semSignalWord (pX d) barS 1#32
  semWaitWord barS 2#32
  loop 32 (fun k h => sendY d ⟨k, h⟩) 32 0 rfl
  loop 16 (pairStep d) 16 0 rfl
  loop 32 (xStep d) 32 0 rfl
  (own d).waitStore 14 (by decide)
  (own d).waitStore 15 (by decide)
  (stY d).waitStore 30 (by decide)
  (stY d).waitStore 31 (by decide)
  (stX d).waitStore 30 (by decide)
  (stX d).waitStore 31 (by decide)
  loop 32 (sentStep d) 32 0 rfl

set_option maxRecDepth 65536 in
/-- The printed body, at the buffers and semaphores it is called with, is that program. -/
theorem cc0_body_eq :
    cc0_body (F := F) (Memref.whole main_arg0) (Memref.isWhole_whole _) (Memref.whole main_v1_0) (Memref.isWhole_whole _)
      (Memref.whole main_v1_1) (Memref.isWhole_whole _) (Memref.whole cc0_scratch0) (Memref.isWhole_whole _)
      cc0_scratch1 cc0_scratch2 (Memref.whole cc0_scratch3) (Memref.isWhole_whole _) cc0_scratch4 cc0_scratch5
      (Memref.whole cc0_scratch6) (Memref.isWhole_whole _) cc0_scratch7 cc0_scratch8
      cc0_scratch9 cc0_scratch10 cc0_scratch11 cc0_scratch12 = body := by
  chain_rfl

end Cert.KernelIdeal.AllGather
-- ==== Proof.Data.lean ====
/- The algebra of the proof, the devices a device talks to, the contents of the buffers and the rows of their chunks:
   which elements a chunk covers, that chunks of one buffer are disjoint and cover it, and that copying a chunk leaves
   in its destination what the final contents say. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the launch's own part, the rounds of the talk between devices, and the counters of local copies -/

abbrev UB : Type := URounds (GSem nD τ sig) Bool
abbrev UU : Type := UR sig nD τ × (UB × Counters)

local notation "𝕄" => MT nD τ sig Unit (Elt F) ℕ UU ℕ

abbrev EP : Emb (UR sig nD τ) 𝕄 := embL
/-- The rounds' part inside the whole. -/
def ER : Emb UB 𝕄 :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_landsIn : (ER : Emb UB 𝕄).LandsIn (upEmb : UEmb _ 𝕄) := by
  unfold ER; infer_instance

/-- The counters' part inside the whole. -/
abbrev EC : UEmb Counters 𝕄 := countersEmb

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## The peers -/

theorem pY_val (d : Dev nD) : (pY d).val = (2 * (d.val / 2) + 1) - d.val % 2 := k0_dev1_eq d
theorem pX_val (d : Dev nD) : (pX d).val = (d.val % 2 + 2) - 2 * (d.val / 2) := k0_dev2_eq d
theorem dev_lt (d : Dev nD) : d.val < 4 := d.isLt

/-- The peer of the peer is the device itself. -/
theorem pY_pY (d : Dev nD) : pY (pY d) = d := Fin.ext (by have := dev_lt d; have h := pY_val d; rw [pY_val, h]; omega)
theorem pX_pX (d : Dev nD) : pX (pX d) = d := Fin.ext (by have := dev_lt d; have h := pX_val d; rw [pX_val, h]; omega)

/-! ## The rows of a chunk -/

/-- The first rows of the chunks, as numbers. -/
theorem off1_row (d : Dev nD) (c : Fin 32) : k0_off1 d (w c) = ![16384 * (d.val / 2) + 512 * c.val, 0] := k0_off1_eq d c
theorem off2_row (d : Dev nD) (c : Fin 16) : k0_off2 d (wl c) = ![32768 * (d.val % 2) + 2048 * c.val, 0] := k0_off2_eq d c
theorem off3_row (d : Dev nD) (c : Fin 32) :
    k0_off3 d (w c) = ![(16384 * (d.val / 2) + 512 * c.val + 32768) - 32768 * (d.val % 2), 0] := k0_off3_eq d c
theorem off4_row (d : Dev nD) (c : Fin 32) : k0_off4 d (w c) = ![(512 * c.val + 16384) - 16384 * (d.val / 2), 0] := k0_off4_eq d c
theorem off5_row (d : Dev nD) (c : Fin 32) :
    k0_off5 d (w c) = ![(512 * c.val + 49152) - (32768 * (d.val % 2) + 16384 * (d.val / 2)), 0] := k0_off5_eq d c

/-- A slab of whole rows of a matrix of 1024 columns holds the elements whose row is in its range. -/
theorem mem_rows {R n : ℕ} {off : Fin 2 → ℕ} {lo : ℕ} (h : off = ![lo, 0])
    (inb : ∀ a, off a + (⟨2, ![n, 1024]⟩ : Shape).size a ≤ (⟨2, ![R, 1024]⟩ : Shape).size a)
    (i : (⟨2, ![R, 1024]⟩ : Shape).Idx) :
    i ∈ (Rect.unit (s := ⟨2, ![R, 1024]⟩) off (⟨2, ![n, 1024]⟩ : Shape).size inb).set
      ↔ lo ≤ (i (0 : Fin 2)).val ∧ (i (0 : Fin 2)).val < lo + n := by
  subst h
  rw [Rect.mem_set_unit]
  constructor
  · intro H; exact H (0 : Fin 2)
  · intro H a
    fin_cases a
    · exact H
    · have h1 : (i (1 : Fin 2)).val < 1024 := (i (1 : Fin 2)).isLt
      exact ⟨Nat.zero_le _, by simpa using h1⟩

theorem mem_xC (d : Dev nD) (c : Fin 32) (i : S32768x1024.Idx) :
    i ∈ (xC d c).view.set ↔ 16384 * (d.val / 2) + 512 * c.val ≤ (i (0 : Fin 2)).val
      ∧ (i (0 : Fin 2)).val < 16384 * (d.val / 2) + 512 * c.val + 512 := by
  exact ValueKit.mem_set_slice_whole_iff main_arg0 _ i (mem_rows (off1_row d c) (k0_off1_inb d c) i)
theorem mem_commC (d : Dev nD) (c : Fin 32) (i : S32768x1024.Idx) :
    i ∈ (commC d c).view.set ↔ 16384 * (d.val / 2) + 512 * c.val ≤ (i (0 : Fin 2)).val
      ∧ (i (0 : Fin 2)).val < 16384 * (d.val / 2) + 512 * c.val + 512 := by
  exact ValueKit.mem_set_slice_whole_iff main_v1_1 _ i (mem_rows (off1_row d c) (k0_off1_inb d c) i)
theorem mem_commO (d : Dev nD) (c : Fin 32) (i : S32768x1024.Idx) :
    i ∈ (commO d c).view.set ↔ (512 * c.val + 16384) - 16384 * (d.val / 2) ≤ (i (0 : Fin 2)).val
      ∧ (i (0 : Fin 2)).val < (512 * c.val + 16384) - 16384 * (d.val / 2) + 512 := by
  exact ValueKit.mem_set_slice_whole_iff main_v1_1 _ i (mem_rows (off4_row d c) (k0_off4_inb d c) i)
theorem mem_xL (c : Fin 16) (i : S32768x1024.Idx) :
    i ∈ (xL c).view.set ↔ 2048 * c.val ≤ (i (0 : Fin 2)).val ∧ (i (0 : Fin 2)).val < 2048 * c.val + 2048 := by
  exact ValueKit.mem_set_slice_whole_iff main_arg0 _ i (mem_rows rfl (own_inb c) i)
theorem mem_outL (d : Dev nD) (c : Fin 16) (i : S65536x1024.Idx) :
    i ∈ (outL d c).view.set ↔ 32768 * (d.val % 2) + 2048 * c.val ≤ (i (0 : Fin 2)).val
      ∧ (i (0 : Fin 2)).val < 32768 * (d.val % 2) + 2048 * c.val + 2048 := by
  exact ValueKit.mem_set_slice_whole_iff main_v1_0 _ i (mem_rows (off2_row d c) (k0_off2_inb d c) i)
theorem mem_outY (d : Dev nD) (c : Fin 32) (i : S65536x1024.Idx) :
    i ∈ (outY d c).view.set ↔ (16384 * (d.val / 2) + 512 * c.val + 32768) - 32768 * (d.val % 2) ≤ (i (0 : Fin 2)).val
      ∧ (i (0 : Fin 2)).val < (16384 * (d.val / 2) + 512 * c.val + 32768) - 32768 * (d.val % 2) + 512 := by
  exact ValueKit.mem_set_slice_whole_iff main_v1_0 _ i (mem_rows (off3_row d c) (k0_off3_inb d c) i)
theorem mem_outX (d : Dev nD) (c : Fin 32) (i : S65536x1024.Idx) :
    i ∈ (outX d c).view.set ↔ (512 * c.val + 49152) - (32768 * (d.val % 2) + 16384 * (d.val / 2)) ≤ (i (0 : Fin 2)).val
      ∧ (i (0 : Fin 2)).val < (512 * c.val + 49152) - (32768 * (d.val % 2) + 16384 * (d.val / 2)) + 512 := by
  exact ValueKit.mem_set_slice_whole_iff main_v1_0 _ i (mem_rows (off5_row d c) (k0_off5_inb d c) i)

/-- The chunks a device sends along "y" are received in the half that the receiver fills from "y". -/
theorem commC_pY (d : Dev nD) (c : Fin 32) : (commC (pY d) c).view.set = (commC d c).view.set :=
  Finset.ext fun i => by
    have hd := dev_lt d; have hv := pY_val d
    refine (mem_commC (pY d) c i).trans (Iff.trans ?_ (mem_commC d c i).symm)
    rw [hv]; constructor <;> intro H <;> omega
/-- The chunks a device sends along "x" are received in the half that the receiver fills from "x". -/
theorem commC_pX (d : Dev nD) (c : Fin 32) : (commC (pX d) c).view.set = (commO d c).view.set :=
  Finset.ext fun i => by
    have hd := dev_lt d; have hv := pX_val d
    refine (mem_commC (pX d) c i).trans (Iff.trans ?_ (mem_commO d c i).symm)
    rw [hv]; constructor <;> intro H <;> omega
theorem commO_pX (d : Dev nD) (c : Fin 32) : (commO (pX d) c).view.set = (commC d c).view.set := by
  rw [← commC_pX (pX d) c, pX_pX]

/-! ## Contents -/

/-- The device whose block row `r` of what device `d` receives comes from. -/
def from_ (d : Dev nD) (r : ℕ) : Dev nD :=
  ⟨2 * (r / 16384 % 2) + (1 - d.val % 2), by show _ < 4; omega⟩

/-- What device `d` has received in the end. -/
def commF (d : Dev nD) : Buf (Elt F) ((d : Thread nD τ).loc main_v1_1) := fun (i : S32768x1024.Idx) =>
  m ((from_ d (i (0 : Fin 2)).val : Thread nD τ).loc main_arg0) i

/-- The element of a block at the place of an element of the result. -/
def low (i : S65536x1024.Idx) : S32768x1024.Idx := fun a =>
  ⟨if a.val = 0 then (i a).val % 32768 else (i a).val, by
    match a with
    | ⟨0, _⟩ => exact Nat.mod_lt _ (by decide)
    | ⟨1, _⟩ => exact (i (1 : Fin 2)).isLt⟩

/-- The gathered result of device `d`: its own block in its own half, what it has received in the other. -/
def outF (d : Dev nD) : Buf (Elt F) ((d : Thread nD τ).loc main_v1_0) := fun (i : S65536x1024.Idx) =>
  if (i (0 : Fin 2)).val / 32768 = d.val % 2 then m ((d : Thread nD τ).loc main_arg0) (low i) else commF m d (low i)

/-- Writing to a chunk what the final contents have there gives the final contents there. -/
theorem write_read_eq {sp : Space} {S : Shape} {e : EltTy} (v : View sig .tc sp S e)
    (fd G : v.ty.Contents (Elt F)) (i : v.ty.Idx) (hi : i ∈ v.set) :
    v.write (Elt F) fd (v.read (Elt F) G) Finset.univ i = G i := by
  obtain ⟨j, rfl⟩ := View.exists_emb_of_mem_set v hi
  rw [View.write_emb_of_mem _ _ (Finset.mem_univ j), View.read_apply]
  simp

/-- Along "x" both devices receive the same. -/
theorem commF_pX (d : Dev nD) (i : S32768x1024.Idx) : commF m (pX d) i = commF m d i := by
  have hd := dev_lt d; have hv := pX_val d
  have h : ∀ r, from_ (pX d) r = from_ d r := fun r => Fin.ext (by
    show 2 * (r / 16384 % 2) + (1 - (pX d).val % 2) = 2 * (r / 16384 % 2) + (1 - d.val % 2)
    rw [hv]; omega)
  unfold commF; rw [h]

/-- A device receives along "y" its peer's block, in its own half. -/
theorem commF_pY (d : Dev nD) (i : S32768x1024.Idx) (h : (i (0 : Fin 2)).val / 16384 = d.val / 2) :
    commF m (pY d) i = m ((d : Thread nD τ).loc main_arg0) i := by
  have hd := dev_lt d; have hv := pY_val d
  have h1 : from_ (pY d) (i (0 : Fin 2)).val = d := Fin.ext (by
    show 2 * ((i (0 : Fin 2)).val / 16384 % 2) + (1 - (pY d).val % 2) = d.val
    rw [hv, h]; omega)
  unfold commF; rw [h1]

/-- A row of the result in the device's own half is that row of its block. -/
theorem outF_own (d : Dev nD) (i : S65536x1024.Idx) (j : S32768x1024.Idx)
    (h0 : (i (0 : Fin 2)).val = 32768 * (d.val % 2) + (j (0 : Fin 2)).val) (h1 : (i (1 : Fin 2)).val = (j (1 : Fin 2)).val) :
    outF m d i = m ((d : Thread nD τ).loc main_arg0) j := by
  have hj : (j (0 : Fin 2)).val < 32768 := (j (0 : Fin 2)).isLt
  have hl : low i = j := funext fun a => Fin.ext (by
    match a with
    | ⟨0, _⟩ => show (i (0 : Fin 2)).val % 32768 = (j (0 : Fin 2)).val; omega
    | ⟨1, _⟩ => exact h1)
  unfold outF; rw [if_pos (by omega), hl]

/-- A row of the result in the other half is that row of what has been received. -/
theorem outF_other (d : Dev nD) (i : S65536x1024.Idx) (j : S32768x1024.Idx)
    (h0 : (i (0 : Fin 2)).val = 32768 * (1 - d.val % 2) + (j (0 : Fin 2)).val) (h1 : (i (1 : Fin 2)).val = (j (1 : Fin 2)).val) :
    outF m d i = commF m d j := by
  have hj : (j (0 : Fin 2)).val < 32768 := (j (0 : Fin 2)).isLt
  have hl : low i = j := funext fun a => Fin.ext (by
    match a with
    | ⟨0, _⟩ => show (i (0 : Fin 2)).val % 32768 = (j (0 : Fin 2)).val; omega
    | ⟨1, _⟩ => exact h1)
  unfold outF; rw [if_neg (by omega), hl]

/-- An element of a slab of rows starting at row `lo` is `lo` rows further down in the buffer, in the same column. -/
theorem slab_row {R n : ℕ} {off : Fin 2 → ℕ} {lo : ℕ} (h : off = ![lo, 0])
    (inb : ∀ a, off a + (⟨2, ![n, 1024]⟩ : Shape).size a ≤ (⟨2, ![R, 1024]⟩ : Shape).size a)
    (j : (⟨2, ![n, 1024]⟩ : Shape).Idx) :
    ((Rect.unit (s := ⟨2, ![R, 1024]⟩) off (⟨2, ![n, 1024]⟩ : Shape).size inb).emb j (0 : Fin 2)).val = lo + (j (0 : Fin 2)).val
      ∧ ((Rect.unit (s := ⟨2, ![R, 1024]⟩) off (⟨2, ![n, 1024]⟩ : Shape).size inb).emb j (1 : Fin 2)).val = (j (1 : Fin 2)).val := by
  subst h
  refine ⟨ValueKit.rect_emb_unit_val (s := ⟨2, ![R, 1024]⟩) ![lo, 0] _ inb j (0 : Fin 2), ?_⟩
  have h := ValueKit.rect_emb_unit_val (s := ⟨2, ![R, 1024]⟩) ![lo, 0] _ inb j (1 : Fin 2)
  exact h.trans (Nat.zero_add _)

/-- Two rows given as numbers differ by what the numbers differ by. -/
theorem row_shift {A B X Y o : ℕ} (h : A = X) (k : B = Y) (e : X = o + Y) : A = o + B := by
  rw [h, k, e]

/-! ## What each copy leaves in its destination -/

/-- A send along "y" leaves in the peer's buffer what the peer receives in the end. -/
theorem land_sendY (d : Dev nD) (c : Fin 32) :
    (commC d c).view.read (Elt F) (commF m (pY d)) = (xC d c).view.read (Elt F) (m ((d : Thread nD τ).loc main_arg0)) := by
  funext j
  have hd := dev_lt d
  have hj : (j (0 : Fin 2)).val < 512 := (j (0 : Fin 2)).isLt
  obtain ⟨h0, -⟩ := slab_row (R := 32768) (n := 512) (off1_row d c) (k0_off1_inb d c) j
  exact commF_pY m d _ ((congrArg (· / 16384) h0).trans (by show (_ + _) / 16384 = _; omega))

/-- So does a send along "x". -/
theorem land_sendX (d : Dev nD) (c : Fin 32) :
    (commC d c).view.read (Elt F) (commF m (pX d)) = (commC d c).view.read (Elt F) (commF m d) := by
  funext j; exact commF_pX m d _

/-- Copying a large chunk of the device's own block leaves the gathered result there. -/
theorem land_own (d : Dev nD) (c : Fin 16) :
    (outL d c).view.read (Elt F) (outF m d) = (xL c).view.read (Elt F) (m ((d : Thread nD τ).loc main_arg0)) := by
  funext j
  obtain ⟨h0, h1⟩ := slab_row (R := 65536) (n := 2048) (off2_row d c) (k0_off2_inb d c) j
  obtain ⟨k0, k1⟩ := slab_row (R := 32768) (n := 2048) rfl (own_inb c) j
  exact outF_own m d _ _ (row_shift h0 k0 (by omega)) (h1.trans k1.symm)

/-- So does copying a chunk received along "y", -/
theorem land_outY (d : Dev nD) (c : Fin 32) :
    (outY d c).view.read (Elt F) (outF m d) = (commC d c).view.read (Elt F) (commF m d) := by
  funext j
  have hd := dev_lt d
  obtain ⟨h0, h1⟩ := slab_row (R := 65536) (n := 512) (off3_row d c) (k0_off3_inb d c) j
  obtain ⟨k0, k1⟩ := slab_row (R := 32768) (n := 512) (off1_row d c) (k0_off1_inb d c) j
  exact outF_other m d _ _ (row_shift h0 k0 (by omega)) (h1.trans k1.symm)

/-- and a chunk received along "x". -/
theorem land_outX (d : Dev nD) (c : Fin 32) :
    (outX d c).view.read (Elt F) (outF m d) = (commO d c).view.read (Elt F) (commF m d) := by
  funext j
  have hd := dev_lt d
  obtain ⟨h0, h1⟩ := slab_row (R := 65536) (n := 512) (off5_row d c) (k0_off5_inb d c) j
  obtain ⟨k0, k1⟩ := slab_row (R := 32768) (n := 512) (off4_row d c) (k0_off4_inb d c) j
  exact outF_other m d _ _ (row_shift h0 k0 (by omega)) (h1.trans k1.symm)

/-! ## A buffer as its chunks -/

/-- Chunks of 512 rows from row `a` on, and chunks of 2048 rows, meet only if they are the same chunk. -/
theorem disjoint_rows {R lo₁ lo₂ n₁ n₂ : ℕ} {S T : Finset (⟨2, ![R, 1024]⟩ : Shape).Idx}
    (hS : ∀ i, i ∈ S ↔ lo₁ ≤ (i (0 : Fin 2)).val ∧ (i (0 : Fin 2)).val < lo₁ + n₁)
    (hT : ∀ i, i ∈ T ↔ lo₂ ≤ (i (0 : Fin 2)).val ∧ (i (0 : Fin 2)).val < lo₂ + n₂)
    (h : lo₁ + n₁ ≤ lo₂ ∨ lo₂ + n₂ ≤ lo₁) : Disjoint S T :=
  Finset.disjoint_left.mpr fun i h1 h2 => by
    have := (hS i).mp h1; have := (hT i).mp h2; omega

theorem disj_xC (d : Dev nD) (c c' : Fin 32) (h : c ≠ c') : Disjoint (xC d c).view.set (xC d c').view.set :=
  disjoint_rows (mem_xC d c) (mem_xC d c') (by have := Fin.val_ne_of_ne h; omega)
theorem disj_commC (d : Dev nD) (c c' : Fin 32) (h : c ≠ c') : Disjoint (commC d c).view.set (commC d c').view.set :=
  disjoint_rows (mem_commC d c) (mem_commC d c') (by have := Fin.val_ne_of_ne h; omega)
theorem disj_commO (d : Dev nD) (c c' : Fin 32) (h : c ≠ c') : Disjoint (commO d c).view.set (commO d c').view.set :=
  disjoint_rows (mem_commO d c) (mem_commO d c') (by have := Fin.val_ne_of_ne h; have := dev_lt d; omega)
theorem disj_xL (c c' : Fin 16) (h : c ≠ c') : Disjoint (xL c).view.set (xL c').view.set :=
  disjoint_rows (mem_xL c) (mem_xL c') (by have := Fin.val_ne_of_ne h; omega)
theorem disj_outL (d : Dev nD) (c c' : Fin 16) (h : c ≠ c') : Disjoint (outL d c).view.set (outL d c').view.set :=
  disjoint_rows (mem_outL d c) (mem_outL d c') (by have := Fin.val_ne_of_ne h; omega)
theorem disj_outY (d : Dev nD) (c c' : Fin 32) (h : c ≠ c') : Disjoint (outY d c).view.set (outY d c').view.set :=
  disjoint_rows (mem_outY d c) (mem_outY d c') (by have := Fin.val_ne_of_ne h; have := dev_lt d; omega)
theorem disj_outX (d : Dev nD) (c c' : Fin 32) (h : c ≠ c') : Disjoint (outX d c).view.set (outX d c').view.set :=
  disjoint_rows (mem_outX d c) (mem_outX d c') (by have := Fin.val_ne_of_ne h; have := dev_lt d; omega)

/-- The elements of the receive buffer that arrive along "y", and along "x". -/
def halfY (d : Dev nD) : Finset S32768x1024.Idx := Finset.univ.biUnion fun c : Fin 32 => (commC d c).view.set
def halfX (d : Dev nD) : Finset S32768x1024.Idx := Finset.univ.biUnion fun c : Fin 32 => (commO d c).view.set

/-- A row of the receive buffer is in one of the chunks of one of the two halves. -/
theorem comm_cover (d : Dev nD) : (Finset.univ : Finset S32768x1024.Idx) = halfY d ∪ halfX d := by
  refine (Finset.eq_univ_of_forall fun i => ?_).symm
  have hi : (i (0 : Fin 2)).val < 32768 := (i (0 : Fin 2)).isLt
  have hd := dev_lt d
  rw [Finset.mem_union]
  by_cases h : (i (0 : Fin 2)).val / 16384 = d.val / 2
  · refine Or.inl (Finset.mem_biUnion.mpr ⟨⟨((i (0 : Fin 2)).val - 16384 * (d.val / 2)) / 512, by omega⟩, Finset.mem_univ _,
      (mem_commC d _ i).mpr ?_⟩)
    show 16384 * (d.val / 2) + 512 * (((i (0 : Fin 2)).val - 16384 * (d.val / 2)) / 512) ≤ _ ∧ _ <
      16384 * (d.val / 2) + 512 * (((i (0 : Fin 2)).val - 16384 * (d.val / 2)) / 512) + 512
    omega
  · refine Or.inr (Finset.mem_biUnion.mpr ⟨⟨((i (0 : Fin 2)).val - (16384 - 16384 * (d.val / 2))) / 512, by omega⟩, Finset.mem_univ _,
      (mem_commO d _ i).mpr ?_⟩)
    show (512 * (((i (0 : Fin 2)).val - (16384 - 16384 * (d.val / 2))) / 512) + 16384) - 16384 * (d.val / 2) ≤ _ ∧ _ <
      (512 * (((i (0 : Fin 2)).val - (16384 - 16384 * (d.val / 2))) / 512) + 16384) - 16384 * (d.val / 2) + 512
    omega

theorem comm_disj (d : Dev nD) : Disjoint (halfY d) (halfX d) :=
  (Finset.disjoint_biUnion_left _ _ _).mpr fun c _ => (Finset.disjoint_biUnion_right _ _ _).mpr fun c' _ =>
    disjoint_rows (mem_commC d c) (mem_commO d c') (by have := dev_lt d; omega)

/-- A row of the block is in one of its large chunks. -/
theorem x_cover : (Finset.univ : Finset S32768x1024.Idx) = Finset.univ.biUnion fun c : Fin 16 => (xL c).view.set := by
  refine (Finset.eq_univ_of_forall fun i => ?_).symm
  have hi : (i (0 : Fin 2)).val < 32768 := (i (0 : Fin 2)).isLt
  refine Finset.mem_biUnion.mpr ⟨⟨(i (0 : Fin 2)).val / 2048, by omega⟩, Finset.mem_univ _, (mem_xL _ i).mpr ?_⟩
  show 2048 * ((i (0 : Fin 2)).val / 2048) ≤ _ ∧ _ < 2048 * ((i (0 : Fin 2)).val / 2048) + 2048
  omega

/-- The elements of the result that are the device's own block, and those received along "y" and along "x". -/
def partL (d : Dev nD) : Finset S65536x1024.Idx := Finset.univ.biUnion fun c : Fin 16 => (outL d c).view.set
def partY (d : Dev nD) : Finset S65536x1024.Idx := Finset.univ.biUnion fun c : Fin 32 => (outY d c).view.set
def partX (d : Dev nD) : Finset S65536x1024.Idx := Finset.univ.biUnion fun c : Fin 32 => (outX d c).view.set

/-- Which chunk a row of the result is in: in the device's own half, -/
theorem row_own {r y : ℕ} (hr : r < 65536) (hy : y ≤ 1) (h : r / 32768 = y) :
    32768 * y + 2048 * (r % 32768 / 2048) ≤ r ∧ r < 32768 * y + 2048 * (r % 32768 / 2048) + 2048 := by omega
/-- in the quarter received along "y", -/
theorem row_Y {r x y : ℕ} (hr : r < 65536) (hx : x ≤ 1) (hy : y ≤ 1) (h : ¬ r / 32768 = y) (h' : r % 32768 / 16384 = x) :
    (16384 * x + 512 * (r % 16384 / 512) + 32768) - 32768 * y ≤ r
      ∧ r < (16384 * x + 512 * (r % 16384 / 512) + 32768) - 32768 * y + 512 := by
  rcases (by omega : y = 0 ∨ y = 1) with rfl | rfl <;> omega
/-- and in the quarter received along "x". -/
theorem row_X {r x y : ℕ} (hr : r < 65536) (hx : x ≤ 1) (hy : y ≤ 1) (h : ¬ r / 32768 = y) (h' : ¬ r % 32768 / 16384 = x) :
    (512 * (r % 16384 / 512) + 49152) - (32768 * y + 16384 * x) ≤ r
      ∧ r < (512 * (r % 16384 / 512) + 49152) - (32768 * y + 16384 * x) + 512 := by
  rcases (by omega : y = 0 ∨ y = 1) with rfl | rfl <;> rcases (by omega : x = 0 ∨ x = 1) with rfl | rfl <;> omega

/-- A row of the result is in one of the chunks of one of the three parts. -/
theorem out_cover (d : Dev nD) : (Finset.univ : Finset S65536x1024.Idx) = partL d ∪ (partY d ∪ partX d) := by
  refine (Finset.eq_univ_of_forall fun i => ?_).symm
  have hi : (i (0 : Fin 2)).val < 65536 := (i (0 : Fin 2)).isLt
  have hx : d.val / 2 ≤ 1 := by have := dev_lt d; omega
  have hy : d.val % 2 ≤ 1 := by omega
  rw [Finset.mem_union, Finset.mem_union]
  have kL : (i (0 : Fin 2)).val % 32768 / 2048 < 16 := by omega
  have kC : (i (0 : Fin 2)).val % 16384 / 512 < 32 := by omega
  have hL (h : (i (0 : Fin 2)).val / 32768 = d.val % 2) : i ∈ (outL d ⟨_, kL⟩).view.set :=
    (mem_outL d ⟨_, kL⟩ i).mpr (row_own (r := (i (0 : Fin 2)).val) (y := d.val % 2) hi hy h)
  have hY (h : ¬ (i (0 : Fin 2)).val / 32768 = d.val % 2) (h' : (i (0 : Fin 2)).val % 32768 / 16384 = d.val / 2) :
      i ∈ (outY d ⟨_, kC⟩).view.set :=
    (mem_outY d ⟨_, kC⟩ i).mpr (row_Y (r := (i (0 : Fin 2)).val) (x := d.val / 2) (y := d.val % 2) hi hx hy h h')
  have hX (h : ¬ (i (0 : Fin 2)).val / 32768 = d.val % 2) (h' : ¬ (i (0 : Fin 2)).val % 32768 / 16384 = d.val / 2) :
      i ∈ (outX d ⟨_, kC⟩).view.set :=
    (mem_outX d ⟨_, kC⟩ i).mpr (row_X (r := (i (0 : Fin 2)).val) (x := d.val / 2) (y := d.val % 2) hi hx hy h h')
  by_cases h : (i (0 : Fin 2)).val / 32768 = d.val % 2
  · exact Or.inl (Finset.mem_biUnion.mpr ⟨⟨_, kL⟩, Finset.mem_univ _, hL h⟩)
  · by_cases h' : (i (0 : Fin 2)).val % 32768 / 16384 = d.val / 2
    · exact Or.inr (Or.inl (Finset.mem_biUnion.mpr ⟨⟨_, kC⟩, Finset.mem_univ _, hY h h'⟩))
    · exact Or.inr (Or.inr (Finset.mem_biUnion.mpr ⟨⟨_, kC⟩, Finset.mem_univ _, hX h h'⟩))

/-- The first rows of the chunks of different parts are apart. -/
theorem rows_apart (d : Dev nD) (c : Fin 16) (a b : Fin 32) :
    (32768 * (d.val % 2) + 2048 * c.val + 2048 ≤ (16384 * (d.val / 2) + 512 * a.val + 32768) - 32768 * (d.val % 2)
      ∨ (16384 * (d.val / 2) + 512 * a.val + 32768) - 32768 * (d.val % 2) + 512 ≤ 32768 * (d.val % 2) + 2048 * c.val)
    ∧ (32768 * (d.val % 2) + 2048 * c.val + 2048 ≤ (512 * b.val + 49152) - (32768 * (d.val % 2) + 16384 * (d.val / 2))
      ∨ (512 * b.val + 49152) - (32768 * (d.val % 2) + 16384 * (d.val / 2)) + 512 ≤ 32768 * (d.val % 2) + 2048 * c.val)
    ∧ ((16384 * (d.val / 2) + 512 * a.val + 32768) - 32768 * (d.val % 2) + 512
        ≤ (512 * b.val + 49152) - (32768 * (d.val % 2) + 16384 * (d.val / 2))
      ∨ (512 * b.val + 49152) - (32768 * (d.val % 2) + 16384 * (d.val / 2)) + 512
        ≤ (16384 * (d.val / 2) + 512 * a.val + 32768) - 32768 * (d.val % 2)) := by
  have hc := c.isLt; have ha := a.isLt; have hb := b.isLt
  have hx : d.val / 2 ≤ 1 := by have := dev_lt d; omega
  have hy : d.val % 2 ≤ 1 := by omega
  generalize d.val / 2 = x at *; generalize d.val % 2 = y at *
  generalize c.val = c at *; generalize a.val = a at *; generalize b.val = b at *
  rcases (by omega : y = 0 ∨ y = 1) with rfl | rfl <;> rcases (by omega : x = 0 ∨ x = 1) with rfl | rfl <;> refine ⟨?_, ?_, ?_⟩ <;> omega

theorem out_disj (d : Dev nD) : Disjoint (partL d) (partY d ∪ partX d) :=
  (Finset.disjoint_biUnion_left _ _ _).mpr fun c _ => Finset.disjoint_union_right.mpr
    ⟨(Finset.disjoint_biUnion_right _ _ _).mpr fun c' _ => disjoint_rows (mem_outL d c) (mem_outY d c') (rows_apart d c c' 0).1,
     (Finset.disjoint_biUnion_right _ _ _).mpr fun c' _ => disjoint_rows (mem_outL d c) (mem_outX d c') (rows_apart d c 0 c').2.1⟩
theorem out_disj' (d : Dev nD) : Disjoint (partY d) (partX d) :=
  (Finset.disjoint_biUnion_left _ _ _).mpr fun c _ => (Finset.disjoint_biUnion_right _ _ _).mpr fun c' _ =>
    disjoint_rows (mem_outY d c) (mem_outX d c') (rows_apart d 0 c c').2.2

/-! ## Ownership of a buffer as ownership of its chunks -/

/-- The receive buffer is its chunks from "y" and its chunks from "x". -/
theorem comm_split (d : Dev nD) (f : Buf (Elt F) ((d : Thread nD τ).loc main_v1_1)) :
    (((d : Thread nD τ).loc main_v1_1) ↦{fullShare} f : sProp 𝕄)
      ⊢ iprop((bigSep Finset.univ fun c : Fin 32 => ((d : Thread nD τ).loc main_v1_1) ↦[(commC d c).view.set]{fullShare} f)
        ∗ bigSep Finset.univ fun c : Fin 32 => ((d : Thread nD τ).loc main_v1_1) ↦[(commO d c).view.set]{fullShare} f) := by
  rw [← pointsTo_biUnion (ℓ := (d : Thread nD τ).loc main_v1_1) Finset.univ (fun c : Fin 32 => (commC d c).view.set)
      (fun c _ c' _ h => disj_commC d c c' h),
    ← pointsTo_biUnion (ℓ := (d : Thread nD τ).loc main_v1_1) Finset.univ (fun c : Fin 32 => (commO d c).view.set)
      (fun c _ c' _ h => disj_commO d c c' h)]
  show ((((d : Thread nD τ).loc main_v1_1) ↦[(Finset.univ : Finset S32768x1024.Idx)]{fullShare} f : sProp 𝕄)) ⊢ _
  rw [comm_cover d]
  exact (pointsTo_union (comm_disj d)).1

/-- The result is the chunks of its three parts. -/
theorem out_split (d : Dev nD) (f : Buf (Elt F) ((d : Thread nD τ).loc main_v1_0)) :
    (((d : Thread nD τ).loc main_v1_0) ↦{fullShare} f : sProp 𝕄)
      ⊣⊢ iprop((bigSep Finset.univ fun c : Fin 16 => ((d : Thread nD τ).loc main_v1_0) ↦[(outL d c).view.set]{fullShare} f)
        ∗ (bigSep Finset.univ fun c : Fin 32 => ((d : Thread nD τ).loc main_v1_0) ↦[(outY d c).view.set]{fullShare} f)
        ∗ bigSep Finset.univ fun c : Fin 32 => ((d : Thread nD τ).loc main_v1_0) ↦[(outX d c).view.set]{fullShare} f) := by
  rw [← pointsTo_biUnion (ℓ := (d : Thread nD τ).loc main_v1_0) Finset.univ (fun c : Fin 16 => (outL d c).view.set)
      (fun c _ c' _ h => disj_outL d c c' h),
    ← pointsTo_biUnion (ℓ := (d : Thread nD τ).loc main_v1_0) Finset.univ (fun c : Fin 32 => (outY d c).view.set)
      (fun c _ c' _ h => disj_outY d c c' h),
    ← pointsTo_biUnion (ℓ := (d : Thread nD τ).loc main_v1_0) Finset.univ (fun c : Fin 32 => (outX d c).view.set)
      (fun c _ c' _ h => disj_outX d c c' h)]
  show ((((d : Thread nD τ).loc main_v1_0) ↦[(Finset.univ : Finset S65536x1024.Idx)]{fullShare} f : sProp 𝕄)) ⊣⊢ _
  rw [out_cover d]
  have h1 := pointsTo_union (Ix := Unit) (Name := ℕ) (U := UU) (Lvl := ℕ) (ℓ := (d : Thread nD τ).loc main_v1_0) (q := fullShare) (f := f) (out_disj d)
  have h2 := pointsTo_union (Ix := Unit) (Name := ℕ) (U := UU) (Lvl := ℕ) (ℓ := (d : Thread nD τ).loc main_v1_0) (q := fullShare) (f := f) (out_disj' d)
  exact ⟨h1.1.trans (sep_mono .rfl h2.1), (sep_mono .rfl h2.2).trans h1.2⟩

/-- The block is its large chunks; -/
theorem x_split (d : Dev nD) (q : PosShare TreeShare) (f : Buf (Elt F) ((d : Thread nD τ).loc main_arg0)) :
    (((d : Thread nD τ).loc main_arg0) ↦{q} f : sProp 𝕄)
      ⊢ bigSep Finset.univ fun c : Fin 16 => ((d : Thread nD τ).loc main_arg0) ↦[(xL c).view.set]{q} f := by
  rw [← pointsTo_biUnion (ℓ := (d : Thread nD τ).loc main_arg0) Finset.univ (fun c : Fin 16 => (xL c).view.set)
      (fun c _ c' _ h => disj_xL c c' h)]
  show ((((d : Thread nD τ).loc main_arg0) ↦[(Finset.univ : Finset S32768x1024.Idx)]{q} f : sProp 𝕄)) ⊢ _
  rw [x_cover]

/-- and it has the chunks of the half that is sent. -/
theorem x_half (d : Dev nD) (q : PosShare TreeShare) (f : Buf (Elt F) ((d : Thread nD τ).loc main_arg0)) :
    (((d : Thread nD τ).loc main_arg0) ↦{q} f : sProp 𝕄)
      ⊢ bigSep Finset.univ fun c : Fin 32 => ((d : Thread nD τ).loc main_arg0) ↦[(xC d c).view.set]{q} f := by
  rw [← pointsTo_biUnion (ℓ := (d : Thread nD τ).loc main_arg0) Finset.univ (fun c : Fin 32 => (xC d c).view.set)
      (fun c _ c' _ h => disj_xC d c c' h)]
  refine (pointsTo_split_subset (I := Finset.univ.biUnion fun c : Fin 32 => (xC d c).view.set) (Finset.subset_univ _)).1.trans ?_
  iintro ⟨H, -⟩; iexact H

end Cert.KernelIdeal.AllGather
-- ==== Proof.Sched.lean ====
/- The protocol between the devices as a schedule. Each device has a barrier cell and, for each of the thirty-two
   chunks, four cells: sending along "y" is done, a chunk from "y" has arrived, sending along "x" is done, a chunk from
   "x" has arrived. Every cell has one round. A peer's barrier signal hands over the landing rows in the peer's receive
   buffer; an arrival cell hands over the chunk that arrived, with its contents. -/
module

public import proofs.«01_k».proof.Proof.Data

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- Semaphore `c` of row `k`: 0 sent along "y", 1 arrived from "y", 2 sent along "x", 3 arrived from "x". -/
def dq (k : Fin 4) (c : Fin 32) : DmaSem sig :=
  ⟨12 + 32 * k.val + c.val, by show _ < 140; have := k.isLt; have := c.isLt; omega⟩

theorem dq_val (k : Fin 4) (c : Fin 32) : (dq k c).val = 12 + 32 * k.val + c.val := rfl

theorem ySend_eq (c : Fin 32) : ySend c = dq 0 c := by revert c; decide +kernel
theorem yRecv_eq (c : Fin 32) : yRecv c = dq 1 c := by revert c; decide +kernel
theorem xSend_eq (c : Fin 32) : xSend c = dq 2 c := by revert c; decide +kernel
theorem xRecv_eq (c : Fin 32) : xRecv c = dq 3 c := by revert c; decide +kernel

/-- A device's cell of a row, and its barrier cell. -/
abbrev cell (d : Dev nD) (k : Fin 4) (c : Fin 32) : GSem nD τ sig := ((d : Thread nD τ), .dma (dq k c))
abbrev bar (d : Dev nD) : GSem nD τ sig := ((d : Thread nD τ), .reg barS)

/-- The row and the chunk of a semaphore. -/
def rowOf (q : DmaSem sig) : Fin 4 := ⟨(q.val - 12) / 32 % 4, Nat.mod_lt _ (by decide)⟩
def chunkOf (q : DmaSem sig) : Fin 32 := ⟨(q.val - 12) % 32, Nat.mod_lt _ (by decide)⟩

theorem rowOf_dq (k : Fin 4) (c : Fin 32) : rowOf (dq k c) = k :=
  Fin.ext (by have := k.isLt; have := c.isLt; show (12 + 32 * k.val + c.val - 12) / 32 % 4 = k.val; omega)
theorem chunkOf_dq (k : Fin 4) (c : Fin 32) : chunkOf (dq k c) = c :=
  Fin.ext (by have := k.isLt; have := c.isLt; show (12 + 32 * k.val + c.val - 12) % 32 = c.val; omega)
theorem le_dq (k : Fin 4) (c : Fin 32) : 12 ≤ (dq k c).val := by rw [dq_val]; omega

/-- What a chunk's transfer credits its semaphores. -/
abbrev NC : ℕ := (commC 0 0).view.dmaCredit
theorem NC_pos : 0 < NC := View.dmaCredit_pos _ (by decide)

/-! ## Payloads -/

/-- Room for chunk `c` in device `d`'s receive buffer, as device `s` addresses it. -/
def landing (d s : Dev nD) (c : Fin 32) : sProp 𝕄 :=
  iprop(∃ f : Buf (Elt F) ((commC s c).view.loc (d : Thread nD τ)), (commC s c).view.loc (d : Thread nD τ) ↦[(commC s c).view.set]{fullShare} f)
/-- Chunk `c` has arrived from "y", and from "x". -/
def arrY (d : Dev nD) (c : Fin 32) : sProp 𝕄 := (commC d c).view.loc (d : Thread nD τ) ↦[(commC d c).view.set]{fullShare} commF m d
def arrX (d : Dev nD) (c : Fin 32) : sProp 𝕄 := (commO d c).view.loc (d : Thread nD τ) ↦[(commO d c).view.set]{fullShare} commF m d

/-- What a device's barrier hands it: room in the buffer of its peer along "y" (`false`) and along "x" (`true`). -/
def barPay (d : Dev nD) (b : Bool) : sProp 𝕄 :=
  if b then bigSep Finset.univ fun c : Fin 32 => landing (pX d) d c else bigSep Finset.univ fun c : Fin 32 => landing (pY d) d c

/-- What a cell of a row hands over: the arrived chunk, or nothing. -/
def pay (d : Dev nD) (k : Fin 4) (c : Fin 32) : sProp 𝕄 :=
  if k = 1 then arrY m d c else if k = 3 then arrX m d c else iprop(emp)

/-- One round per cell: a barrier cell has two duties of one unit, a cell of a row one duty of a chunk's credit. -/
def Rd : Rounds.Schedule (GSem nD τ sig) Bool 𝕄 where
  duties g r := if r = 0 ∧ g.1.2 = .tc then
      (match g.2 with
        | .reg _ => Finset.univ
        | .dma q => if 12 ≤ q.val then {false} else ∅)
    else ∅
  unitless _ := False
  amount g _ _ := match g.2 with
    | .reg _ => 1
    | .dma _ => NC
  payload g _ b := match g.2 with
    | .reg _ => barPay g.1.1 b
    | .dma q => pay m g.1.1 (rowOf q) (chunkOf q)
  amount_pos g _ _ _ := by
    rcases g with ⟨t, _ | _⟩
    · exact Nat.one_pos
    · exact NC_pos

instance Rd_payload_storable (g : GSem nD τ sig) (r : ℕ) (b : Bool) : BI.Storable (upEmb : UEmb _ 𝕄) ((Rd (F := F) m).payload g r b) := by
  rcases g with ⟨t, _ | q⟩
  · show BI.Storable upEmb (barPay t.1 b)
    unfold barPay landing
    split <;> infer_instance
  · show BI.Storable upEmb (pay m t.1 (rowOf q) (chunkOf q))
    unfold pay arrY arrX
    (repeat' split) <;> infer_instance

theorem duties_bar (d : Dev nD) : (Rd (F := F) m).duties (bar d) 0 = Finset.univ := by
  dsimp only [Rd]; exact if_pos ⟨rfl, rfl⟩
theorem duties_cell (d : Dev nD) (k : Fin 4) (c : Fin 32) : (Rd (F := F) m).duties (cell d k c) 0 = {false} := by
  dsimp only [Rd]; rw [if_pos ⟨rfl, rfl⟩]; exact if_pos (le_dq k c)
theorem duties_later (g : GSem nD τ sig) : ∀ r, 1 ≤ r → (Rd (F := F) m).duties g r = ∅ :=
  fun r hr => if_neg fun h => by omega

theorem amount_bar (d : Dev nD) (b : Bool) : (Rd (F := F) m).amount (bar d) 0 b = 1 := rfl
theorem amount_cell (d : Dev nD) (k : Fin 4) (c : Fin 32) (b : Bool) : (Rd (F := F) m).amount (cell d k c) 0 b = NC := rfl

theorem expect_bar (d : Dev nD) : (Rd (F := F) m).expect (bar d) 0 = 2 := by
  unfold Schedule.expect Schedule.amountOf
  rw [duties_bar, Finset.sum_congr rfl fun b _ => amount_bar m d b, Finset.sum_const, Finset.card_univ, Fintype.card_bool, smul_eq_mul]
theorem expect_cell (d : Dev nD) (k : Fin 4) (c : Fin 32) : (Rd (F := F) m).expect (cell d k c) 0 = NC := by
  unfold Schedule.expect Schedule.amountOf; rw [duties_cell, Finset.sum_singleton, amount_cell]

theorem payload_bar (d : Dev nD) (b : Bool) : (Rd (F := F) m).payload (bar d) 0 b = barPay d b := rfl
theorem payload_cell (d : Dev nD) (k : Fin 4) (c : Fin 32) (b : Bool) : (Rd (F := F) m).payload (cell d k c) 0 b = pay m d k c := by
  show pay m d (rowOf (dq k c)) (chunkOf (dq k c)) = _
  rw [rowOf_dq, chunkOf_dq]

/-- All a barrier hands over: room in both peers' buffers. -/
theorem rest_bar (d : Dev nD) : bigSep ((Rd (F := F) m).duties (bar d) 0 \ ∅) (fun b => (Rd (F := F) m).payload (bar d) 0 b)
    = iprop((bigSep Finset.univ fun c : Fin 32 => landing (pY d) d c) ∗ bigSep Finset.univ fun c : Fin 32 => landing (pX d) d c) := by
  rw [Finset.sdiff_empty, duties_bar, bigSep_univ_eq_bigSepL [false, true] (by decide) (by decide), bigSepL_cons_cons, bigSepL_singleton,
    payload_bar, payload_bar]
  rfl
theorem rest_cell (d : Dev nD) (k : Fin 4) (c : Fin 32) :
    bigSep ((Rd (F := F) m).duties (cell d k c) 0 \ ∅) (fun b => (Rd (F := F) m).payload (cell d k c) 0 b) = pay m d k c := by
  rw [Finset.sdiff_empty, duties_cell, bigSep_singleton, payload_cell]

/-! ## Families indexed by chunks, in the order of the chunks -/

section Families
variable {n : ℕ}

/-- The members from number `k` on, and those before it. -/
def From (k : ℕ) (Φ : Fin n → sProp 𝕄) : sProp 𝕄 := bigSep (Finset.univ.filter fun c : Fin n => k ≤ c.val) Φ
def Upto (k : ℕ) (Φ : Fin n → sProp 𝕄) : sProp 𝕄 := bigSep (Finset.univ.filter fun c : Fin n => c.val < k) Φ

theorem from_zero (Φ : Fin n → sProp 𝕄) : From 0 Φ = bigSep Finset.univ Φ := by
  unfold From; rw [Finset.filter_true_of_mem fun c _ => Nat.zero_le _]
theorem upto_zero (Φ : Fin n → sProp 𝕄) : Upto 0 Φ = iprop(emp) := by
  unfold Upto; rw [Finset.filter_false_of_mem fun c _ => Nat.not_lt_zero _, BI.bigSep_empty]; rfl
theorem upto_all (Φ : Fin n → sProp 𝕄) : Upto n Φ = bigSep Finset.univ Φ := by
  unfold Upto; rw [Finset.filter_true_of_mem fun c _ => c.isLt]

theorem filter_from (k : ℕ) (h : k < n) :
    (Finset.univ.filter fun c : Fin n => k ≤ c.val) = insert ⟨k, h⟩ (Finset.univ.filter fun c : Fin n => k + 1 ≤ c.val) := by
  ext c; simp only [Finset.mem_filter, Finset.mem_univ, true_and, Finset.mem_insert, Fin.ext_iff]; omega
theorem not_mem_from (k : ℕ) (h : k < n) : (⟨k, h⟩ : Fin n) ∉ Finset.univ.filter fun c : Fin n => k + 1 ≤ c.val := by
  simp only [Finset.mem_filter, Finset.mem_univ, true_and]; omega

theorem from_step (k : ℕ) (h : k < n) (Φ : Fin n → sProp 𝕄) : From k Φ = iprop(Φ ⟨k, h⟩ ∗ From (k + 1) Φ) := by
  unfold From; rw [filter_from k h, bigSep_insert (not_mem_from k h)]; rfl
theorem upto_step (k : ℕ) (h : k < n) (Φ : Fin n → sProp 𝕄) : Upto (k + 1) Φ = iprop(Φ ⟨k, h⟩ ∗ Upto k Φ) := by
  have e : (Finset.univ.filter fun c : Fin n => c.val < k + 1) = insert ⟨k, h⟩ (Finset.univ.filter fun c : Fin n => c.val < k) := by
    ext c; simp only [Finset.mem_filter, Finset.mem_univ, true_and, Finset.mem_insert, Fin.ext_iff]; omega
  unfold Upto; rw [e, bigSep_insert (by simp only [Finset.mem_filter, Finset.mem_univ, true_and]; omega)]; rfl

end Families

/-! ## What is owed, and the levels -/

/-- The credit of the chunks from number `k` on, owed to the cells `g`. -/
def dues (g : Fin 32 → GSem nD τ sig) (k : ℕ) : CellTallies nD τ sig Unit :=
  ∑ c ∈ Finset.univ.filter fun c : Fin 32 => k ≤ c.val, tallyAt (g c) () NC
theorem dues_step (g : Fin 32 → GSem nD τ sig) (k : ℕ) (h : k < 32) : dues g k = dues g (k + 1) + tallyAt (g ⟨k, h⟩) () NC := by
  unfold dues; rw [filter_from k h, Finset.sum_insert (not_mem_from k h), add_comm]
theorem dues_end (g : Fin 32 → GSem nD τ sig) : dues g 32 = 0 := by
  unfold dues; rw [Finset.filter_false_of_mem fun c _ => by have := c.isLt; omega, Finset.sum_empty]

/-- The chunks a device has yet to deliver along "y", and along "x". -/
abbrev oY (d : Dev nD) (k : ℕ) : CellTallies nD τ sig Unit := dues (fun c => cell (pY d) 1 c) k
abbrev oX (d : Dev nD) (k : ℕ) : CellTallies nD τ sig Unit := dues (fun c => cell (pX d) 3 c) k

/-- At launch a device owes both peers every chunk and a barrier unit. -/
def O₁ (d : Dev nD) : CellTallies nD τ sig Unit := (oX d 0 + oY d 0) + tallyAt (bar (pX d)) () 1
def O₀ (d : Dev nD) : CellTallies nD τ sig Unit := O₁ d + tallyAt (bar (pY d)) () 1

def L (g : GSem nD τ sig) : Finset Unit := if g.1.2 = .tc then {()} else ∅
/-- Barrier cells first, then arrivals from "y", then arrivals from "x"; nothing waits for the others. -/
def lv (g : GSem nD τ sig) (_ : Unit) : ℕ := match g.2 with
  | .reg _ => 1
  | .dma q => if 12 ≤ q.val then (if rowOf q = 1 then 2 else if rowOf q = 3 then 3 else 0) else 0

theorem L_of_ne (g : GSem nD τ sig) (h : g.1.2 ≠ .tc) : L g = ∅ := if_neg h
theorem lv_bar (d : Dev nD) (u : Unit) : lv (bar d) u = 1 := rfl
theorem lv_cell (d : Dev nD) (k : Fin 4) (c : Fin 32) (u : Unit) :
    lv (cell d k c) u = if k = 1 then 2 else if k = 3 then 3 else 0 := by
  show (if 12 ≤ (dq k c).val then _ else _) = _
  rw [if_pos (le_dq k c), rowOf_dq]
theorem lv_stage (d : Dev nD) (q : DmaSem sig) (h : q.val < 12) (u : Unit) : lv ((d : Thread nD τ), .dma q) u = 0 :=
  if_neg (by omega)

/-- Everything owed is owed to cells of a level above `n`. -/
def Above (n : ℕ) (O : CellTallies nD τ sig Unit) : Prop := ∀ (g : GSem nD τ sig) (u : Unit), 0 < O g u → u ∈ L g ∧ n < lv g u

theorem above_zero (n : ℕ) : Above n 0 := fun g u h => absurd h (Nat.lt_irrefl 0)
theorem above_add {n : ℕ} {O P : CellTallies nD τ sig Unit} (hO : Above n O) (hP : Above n P) : Above n (O + P) := fun g u h => by
  rw [Pi.add_apply, Finsupp.add_apply] at h
  rcases Nat.eq_zero_or_pos (O g u) with h' | h'
  · rw [h', Nat.zero_add] at h; exact hP g u h
  · exact hO g u h'
theorem above_tally {n k : ℕ} (d : Dev nD) (sm : SemLoc sig) (h : n < lv ((d : Thread nD τ), sm) ()) : Above n (tallyAt ((d : Thread nD τ), sm) () k) := fun g u hg => by
  obtain ⟨rfl, rfl⟩ := Pipeline.tallyAt_pos hg
  exact ⟨by unfold L; rw [if_pos rfl]; exact Finset.mem_singleton_self _, h⟩
theorem above_dues {n : ℕ} (d : Dev nD) (k : Fin 4) (h : n < (if k = 1 then 2 else if k = 3 then 3 else 0)) (j : ℕ) :
    Above n (dues (fun c => cell d k c) j) := by
  unfold dues
  induction (Finset.univ.filter fun c : Fin 32 => j ≤ c.val) using Finset.induction_on with
  | empty => rw [Finset.sum_empty]; exact above_zero n
  | insert c s hc ih => rw [Finset.sum_insert hc]; exact above_add (above_tally d _ (by rw [lv_cell]; exact h)) ih

/-- A device may wait at a cell of level at most `n` when all it owes lies above. -/
theorem mayWait (n : ℕ) (d : Dev nD) (sm : SemLoc sig) (h : lv ((d : Thread nD τ), sm) () ≤ n) (O : CellTallies nD τ sig Unit) (hO : Above n O) :
    (levAts L lv : sProp 𝕄) ⊢ MayWait (d : Thread nD τ) sm () O :=
  MayOwe.of_cut (L := L) (lev := lv) n
    (fun p hp => by rw [Finset.mem_singleton.mp hp]; unfold L; rw [if_pos rfl]; exact Finset.mem_singleton_self _)
    (fun g u hg => (hO g u hg).1) (fun p hp => by rw [Finset.mem_singleton.mp hp]; exact h) (fun g u hg => (hO g u hg).2)

/-! ## The records every device may read: the cells' invariants, that no cell has passed its round, the levels -/

/-- A device's cells: its barrier (`none`) and its rows. -/
abbrev CI := Option (Fin 4 × Fin 32)
def csem : CI → SemLoc sig
  | none => .reg barS
  | some (k, c) => .dma (dq k c)
abbrev kcell (x : Dev nD × CI) : GSem nD τ sig := ((x.1 : Thread nD τ), csem x.2)

def records (K : Dev nD × CI → ℕ) : sProp 𝕄 :=
  iprop((bigSep Finset.univ fun x : Dev nD × CI => cellInv ER (Rd m) (K x) (kcell x))
    ∗ (bigSep Finset.univ fun x : Dev nD × CI => reached ER (kcell x) 0) ∗ levAts L lv)

instance records_persistent (K : Dev nD × CI → ℕ) : BI.Persistent (records m K) := by unfold records; infer_instance

theorem elim_at {I : Type} [Fintype I] [DecidableEq I] (Φ : I → sProp 𝕄) (i : I) : (bigSep Finset.univ Φ : sProp 𝕄) ⊢ Φ i :=
  bigSep_elim (Finset.mem_univ i)
theorem inv_cell (K : Dev nD × CI → ℕ) (d : Dev nD) (k : Fin 4) (c : Fin 32) :
    records m K ⊢ cellInv ER (Rd m) (K (d, some (k, c))) (cell d k c) := by
  unfold records; iintro ⟨H, -⟩
  iapply (elim_at (F := F) (fun x : Dev nD × CI => cellInv ER (Rd m) (K x) (kcell x)) ((d, some (k, c)))); iexact H
theorem inv_bar (K : Dev nD × CI → ℕ) (d : Dev nD) : records m K ⊢ cellInv ER (Rd m) (K (d, none)) (bar d) := by
  unfold records; iintro ⟨H, -⟩
  iapply (elim_at (F := F) (fun x : Dev nD × CI => cellInv ER (Rd m) (K x) (kcell x)) ((d, none))); iexact H
theorem reached_cell (K : Dev nD × CI → ℕ) (d : Dev nD) (k : Fin 4) (c : Fin 32) : records m K ⊢ reached ER (cell d k c) 0 := by
  unfold records; iintro ⟨-, H, -⟩
  iapply (elim_at (F := F) (fun x : Dev nD × CI => reached ER (kcell x) 0) ((d, some (k, c)))); iexact H
theorem reached_bar (K : Dev nD × CI → ℕ) (d : Dev nD) : records m K ⊢ reached ER (bar d) 0 := by
  unfold records; iintro ⟨-, H, -⟩
  iapply (elim_at (F := F) (fun x : Dev nD × CI => reached ER (kcell x) 0) ((d, none))); iexact H
theorem records_levels (K : Dev nD × CI → ℕ) : records m K ⊢ (levAts L lv : sProp 𝕄) := by
  unfold records; iintro ⟨-, -, H⟩; iexact H

end Cert.KernelIdeal.AllGather
-- ==== Proof.Steps.lean ====
/- One rule per command of the body: what it needs and what it leaves. First the copies on the device itself — a stager's
   load and store, and its push of one chunk — then the talk with the other devices. -/
module

public import proofs.«01_k».proof.Proof.Sched

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `d`. -/
abbrev run {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-- A program followed by another, and a program at the end. -/
theorem run_then {d : Dev nD} {p : Prog (TpuEff nD τ sig (Elt F) Λ₀ .tc) PUnit} {P R : sProp 𝕄} (h : P ⊢ run d p (fun _ => R))
    {α : Type} (k : PUnit → Prog (TpuEff nD τ sig (Elt F) Λ₀ .tc) α) (Q : α → sProp 𝕄) :
    P ⊢ iprop((R -∗ run d (k ⟨⟩) Q) -∗ run d (p >>= k) Q) := by
  unfold run at h ⊢
  rw [wp_bind]
  iintro HP Hk
  ihave H := h $$ HP
  iapply (wp_wand (Fr := frame) (wpE := wpE (defs₀ (F := F)) 𝒱₀ (d : Thread nD τ) none) (E := Set.univ) (p := p) (Q := fun _ => R)) $$ H
  iintro %a HR
  iapply Hk; iexact HR
theorem run_last {d : Dev nD} {p : Prog (TpuEff nD τ sig (Elt F) Λ₀ .tc) PUnit} {P R : sProp 𝕄} (h : P ⊢ run d p (fun _ => R))
    (Q : PUnit → sProp 𝕄) : P ⊢ iprop((R -∗ Q ⟨⟩) -∗ run d p Q) := by
  unfold run at h ⊢
  iintro HP Hk
  ihave H := h $$ HP
  iapply (wp_wand (Fr := frame) (wpE := wpE (defs₀ (F := F)) 𝒱₀ (d : Thread nD τ) none) (E := Set.univ) (p := p) (Q := fun _ => R)) $$ H
  iintro %a HR
  iapply Hk; iexact HR

/-- What a device owes, whatever it has waited for so far. -/
def owing (d : Dev nD) (O : CellTallies nD τ sig Unit) : sProp 𝕄 := iprop(∃ W : Waits sig Unit, owes (d : Thread nD τ) O W)

/-! ## Stagers -/

/-- What a stager on device `d` reads and leaves: the contents of the sources, the share of each that it reads with, and
    the contents of the destinations in the end. -/
structure Staging {n : ℕ} {S : Shape} (St : Stager n S) (d : Dev nD) where
  fs : (c : Fin n) → Buf (Elt F) ((St.src c).view.loc (d : Thread nD τ))
  gs : (c : Fin n) → Buf (Elt F) ((St.dst c).view.loc (d : Thread nD τ))
  q : PosShare TreeShare
  hval : ∀ c, (St.dst c).view.read (Elt F) (gs c) = (St.src c).view.read (Elt F) (fs c)
  hS : 0 < S.numel
  hi : ∀ i, (St.isem i).val < 12
  ho : ∀ i, (St.osem i).val < 12

namespace Staging
variable {n : ℕ} {S : Shape} {St : Stager n S} {d : Dev nD} (G : Staging (F := F) St d)

/-- A source chunk; a destination chunk before and after; a slot. -/
def inPt (c : Fin n) : sProp 𝕄 := (St.src c).view.loc (d : Thread nD τ) ↦[(St.src c).view.set]{G.q} G.fs c
def todo (G : Staging (F := F) St d) (c : Fin n) : sProp 𝕄 :=
  iprop(∃ f : Buf (Elt F) ((St.dst c).view.loc (d : Thread nD τ)), (St.dst c).view.loc (d : Thread nD τ) ↦[(St.dst c).view.set]{fullShare} f)
def done (c : Fin n) : sProp 𝕄 := (St.dst c).view.loc (d : Thread nD τ) ↦[(St.dst c).view.set]{fullShare} G.gs c
def slotPt (G : Staging (F := F) St d) (i : Fin 2) : sProp 𝕄 :=
  iprop(∃ f : Buf (Elt F) ((St.slot i).view.loc (d : Thread nD τ)), (St.slot i).view.loc (d : Thread nD τ) ↦[(St.slot i).view.set]{fullShare} f)
/-- A slot holding a chunk's source. -/
def slotAt (i : Fin 2) (c : Fin n) : sProp 𝕄 :=
  iprop(∃ f : Buf (Elt F) ((St.slot i).view.loc (d : Thread nD τ)), ⌜(St.slot i).view.read (Elt F) f = (St.src c).view.read (Elt F) (G.fs c)⌝
    ∗ (St.slot i).view.loc (d : Thread nD τ) ↦[(St.slot i).view.set]{fullShare} f)
/-- The semaphores of a slot at zero. -/
def isem0 (G : Staging (F := F) St d) (i : Fin 2) : sProp 𝕄 := semVal ((d : Thread nD τ), .dma (St.isem i)) 0
def osem0 (G : Staging (F := F) St d) (i : Fin 2) : sProp 𝕄 := semVal ((d : Thread nD τ), .dma (St.osem i)) 0

/-- A slot at rest, and a slot whose store of chunk `c` is on its way. -/
def free (i : Fin 2) : sProp 𝕄 := iprop(G.slotPt i ∗ G.isem0 i ∗ G.osem0 i)
def busy (i : Fin 2) (c : Fin n) : sProp 𝕄 :=
  iprop(Flight EC (d : Thread nD τ) (.dma (St.osem i)) () (St.dst c).view.dmaCredit iprop(G.done c ∗ G.slotPt i) ∗ G.isem0 i)

/-- The load of a chunk into a slot, -/
theorem run_load (k : ℕ) (h : k < n) :
    iprop(G.inPt ⟨k, h⟩ ∗ G.slotPt (par k) ∗ G.isem0 (par k))
      ⊢ run d (St.load (F := F) k h) (fun _ =>
          Flight EC (d : Thread nD τ) (.dma (St.isem (par k))) () (St.slot (par k)).view.dmaCredit (G.slotAt (par k) ⟨k, h⟩)) := by
  unfold inPt slotPt isem0
  iintro ⟨Hs, ⟨%fd, Hd⟩, Hv⟩
  iapply (wp_dmaLocal EC 𝒱₀ (d : Thread nD τ) none () (St.slot (par k)).view.dmaCredit rfl
    (View.dmaCredit_pos _ G.hS) (Finset.Subset.refl _)) $$ [Hs Hd Hv]
  · isplitl [Hs]; · iexact Hs
    isplitl [Hd] <;> iassumption
  iintro H
  rw [wp_ret]; imodintro
  iapply (Flight_mono EC (d : Thread nD τ) ?_) $$ H
  unfold slotAt
  iintro ⟨Hd, -⟩
  iexists (St.slot (par k)).view.write (Elt F) fd ((St.src ⟨k, h⟩).view.read (Elt F) (G.fs ⟨k, h⟩)) Finset.univ
  isplitr
  · ipureintro; exact View.read_write_univ _ _
  iexact Hd

/-- the wait for it, -/
theorem run_waitLoad (K : Dev nD × CI → ℕ) (O : CellTallies nD τ sig Unit) (hO : Above 0 O) (k : ℕ) (h : k < n) :
    iprop(records m K ∗ Flight EC (d : Thread nD τ) (.dma (St.isem (par k))) () (St.slot (par k)).view.dmaCredit (G.slotAt (par k) ⟨k, h⟩)
        ∗ owing d O)
      ⊢ run d (St.waitLoad (F := F) k h) (fun _ => iprop(G.slotAt (par k) ⟨k, h⟩ ∗ G.isem0 (par k) ∗ owing d O)) := by
  unfold owing isem0
  iintro ⟨#HR, Hf, ⟨%W, Ho⟩⟩
  iapply (wp_waitLocalO EC 𝒱₀ (d : Thread nD τ) none () rfl) $$ [Hf Ho]
  · isplitl [Hf]; · iexact Hf
    isplitl [Ho]; · iexact Ho
    iapply (mayWait 0 d _ (by rw [lv_stage d _ (G.hi _)]) O hO)
    iapply (records_levels m K); iexact HR
  iintro ⟨Hs, Hv, Ho⟩
  rw [wp_ret]; imodintro
  isplitl [Hs]; · iexact Hs
  isplitl [Hv]; · iexact Hv
  iexists _; iexact Ho

/-- the store of a slot to a chunk's destination, -/
theorem run_store (k : ℕ) (h : k < n) :
    iprop(G.slotAt (par k) ⟨k, h⟩ ∗ G.todo ⟨k, h⟩ ∗ G.isem0 (par k) ∗ G.osem0 (par k))
      ⊢ run d (St.store (F := F) k h) (fun _ => G.busy (par k) ⟨k, h⟩) := by
  unfold slotAt todo osem0 busy
  iintro ⟨⟨%f, %hf, Hs⟩, ⟨%fd, Hd⟩, Hi, Hv⟩
  iapply (wp_dmaLocal EC 𝒱₀ (d : Thread nD τ) none () (St.dst ⟨k, h⟩).view.dmaCredit rfl
    (View.dmaCredit_pos _ G.hS) (Finset.Subset.refl _)) $$ [Hs Hd Hv]
  · isplitl [Hs]; · iexact Hs
    isplitl [Hd] <;> iassumption
  iintro H
  rw [wp_ret]; imodintro
  isplitl [H]
  · iapply (Flight_mono EC (d : Thread nD τ) ?_) $$ H
    unfold done slotPt
    iintro ⟨Hd, Hs⟩
    isplitl [Hd]
    · iapply (Entails.of_eq (pointsTo_congr fun i hi => ?_)) $$ Hd
      show (St.dst ⟨k, h⟩).view.write (Elt F) fd ((St.slot (par k)).view.read (Elt F) f) Finset.univ i = _
      rw [hf, ← G.hval]
      exact write_read_eq (St.dst ⟨k, h⟩).view fd (G.gs ⟨k, h⟩) i hi
    · iexists f; iexact Hs
  · iexact Hi

/-- and the wait for that. -/
theorem run_waitStore (K : Dev nD × CI → ℕ) (O : CellTallies nD τ sig Unit) (hO : Above 0 O) (k : ℕ) (h : k < n) :
    iprop(records m K ∗ G.busy (par k) ⟨k, h⟩ ∗ owing d O)
      ⊢ run d (St.waitStore (F := F) k h) (fun _ => iprop(G.done ⟨k, h⟩ ∗ G.free (par k) ∗ owing d O)) := by
  unfold owing busy free
  iintro ⟨#HR, ⟨Hf, Hi⟩, ⟨%W, Ho⟩⟩
  iapply (wp_waitLocalO EC 𝒱₀ (d : Thread nD τ) none () rfl) $$ [Hf Ho]
  · isplitl [Hf]; · iexact Hf
    isplitl [Ho]; · iexact Ho
    iapply (mayWait 0 d _ (by rw [lv_stage d _ (G.ho _)]) O hO)
    iapply (records_levels m K); iexact HR
  iintro ⟨⟨Hd, Hs⟩, Hv, Ho⟩
  rw [wp_ret]; imodintro
  isplitl [Hd]; · iexact Hd
  isplitl [Hs Hi Hv]
  · isplitl [Hs]; · iexact Hs
    isplitl [Hi]; · iexact Hi
    unfold osem0; iexact Hv
  iexists _; iexact Ho

/-- Load, wait, store, from a slot at rest. -/
theorem run_pass (K : Dev nD × CI → ℕ) (O : CellTallies nD τ sig Unit) (hO : Above 0 O) (k : ℕ) (h : k < n) :
    iprop(records m K ∗ G.free (par k) ∗ G.inPt ⟨k, h⟩ ∗ G.todo ⟨k, h⟩ ∗ owing d O)
      ⊢ run d (do St.load (F := F) k h; St.waitLoad k h; St.store k h) (fun _ => iprop(G.busy (par k) ⟨k, h⟩ ∗ owing d O)) := by
  iintro ⟨#HR, Hfree, Hin, Hto, Ho⟩
  unfold free
  icases Hfree with ⟨Hs, Hi, Hv⟩
  iapply (run_then (G.run_load k h)) $$ [Hin Hs Hi]
  · isplitl [Hin]; · iexact Hin
    isplitl [Hs] <;> iassumption
  iintro Hf
  iapply (run_then (G.run_waitLoad m K O hO k h)) $$ [Hf Ho]
  · isplitr; · iexact HR
    isplitl [Hf] <;> iassumption
  iintro ⟨Hs, Hi, Ho⟩
  iapply (run_last (G.run_store k h)) $$ [Hs Hto Hi Hv]
  · isplitl [Hs]; · iexact Hs
    isplitl [Hto]; · iexact Hto
    isplitl [Hi] <;> iassumption
  iintro Hb
  isplitl [Hb] <;> iassumption

/-- The slot that chunk `j` will use, before its push: at rest, or with the store two chunks back on its way. -/
def before : ℕ → sProp 𝕄
  | 0 => G.free (par 0)
  | 1 => G.free (par 1)
  | j + 2 => if h : j < n then G.busy (par j) ⟨j, h⟩ else iprop(emp)

/-- A stager after `k` pushes: the destinations still to be written, those written for sure, and the two slots. -/
def inv (k : ℕ) : sProp 𝕄 := iprop(From k G.todo ∗ Upto (k - 2) G.done ∗ G.before k ∗ G.before (k + 1))

theorem par_two (k : ℕ) : par (k + 2) = par k := Fin.ext (by show (k + 2) % 2 = k % 2; omega)

theorem before_zero : G.before 0 = G.free (par 0) := rfl
theorem before_one : G.before 1 = G.free (par 1) := rfl
theorem before_two (k : ℕ) (h : k < n) : G.before (k + 2) = G.busy (par k) ⟨k, h⟩ := dif_pos h

/-- One push takes a stager from `k` chunks to `k + 1`. -/
theorem run_push (K : Dev nD × CI → ℕ) (O : CellTallies nD τ sig Unit) (hO : Above 0 O) :
    (k : ℕ) → (h : k < n) → iprop(records m K ∗ G.inv k ∗ G.inPt ⟨k, h⟩ ∗ owing d O)
      ⊢ run d (St.push (F := F) k h) (fun _ => iprop(G.inv (k + 1) ∗ owing d O))
  | 0, h => by
    unfold inv
    rw [from_step 0 h, G.before_two 0 h, G.before_zero]
    iintro ⟨#HR, ⟨⟨Hto, Htos⟩, Hd, Hs, Hs'⟩, Hin, Ho⟩
    iapply (run_last (G.run_pass m K O hO 0 h)) $$ [Hs Hin Hto Ho]
    · isplitr; · iexact HR
      isplitl [Hs]; · iexact Hs
      isplitl [Hin]; · iexact Hin
      isplitl [Hto] <;> iassumption
    iintro ⟨Hb, Ho⟩
    isplitr [Ho]
    · isplitl [Htos]; · iexact Htos
      isplitl [Hd]; · iexact Hd
      isplitl [Hs'] <;> iassumption
    iexact Ho
  | 1, h => by
    unfold inv
    rw [from_step 1 h, G.before_two 1 h, G.before_one]
    iintro ⟨#HR, ⟨⟨Hto, Htos⟩, Hd, Hs, Hs'⟩, Hin, Ho⟩
    iapply (run_last (G.run_pass m K O hO 1 h)) $$ [Hs Hin Hto Ho]
    · isplitr; · iexact HR
      isplitl [Hs]; · iexact Hs
      isplitl [Hin]; · iexact Hin
      isplitl [Hto] <;> iassumption
    iintro ⟨Hb, Ho⟩
    isplitr [Ho]
    · isplitl [Htos]; · iexact Htos
      isplitl [Hd]; · iexact Hd
      isplitl [Hs'] <;> iassumption
    iexact Ho
  | k + 2, h => by
    have hk : k < n := by omega
    unfold inv
    rw [from_step (k + 2) h, G.before_two (k + 2) h, G.before_two k hk, show k + 2 + 1 - 2 = k + 1 from rfl, upto_step k hk,
      show k + 2 - 2 = k from rfl, par_two]
    iintro ⟨#HR, ⟨⟨Hto, Htos⟩, Hd, Hs, Hs'⟩, Hin, Ho⟩
    unfold Stager.push
    iapply (run_then (G.run_waitStore m K O hO k hk)) $$ [Hs Ho]
    · isplitr; · iexact HR
      isplitl [Hs] <;> iassumption
    iintro ⟨Hdk, Hf, Ho⟩
    rw [← par_two k]
    iapply (run_last (G.run_pass m K O hO (k + 2) h)) $$ [Hf Hin Hto Ho]
    · isplitr; · iexact HR
      isplitl [Hf]; · iexact Hf
      isplitl [Hin]; · iexact Hin
      isplitl [Hto] <;> iassumption
    iintro ⟨Hb, Ho⟩
    isplitr [Ho]
    · isplitl [Htos]; · iexact Htos
      isplitl [Hdk Hd]
      · isplitl [Hdk] <;> iassumption
      isplitl [Hs'] <;> iassumption
    iexact Ho

/-- Once all chunks are pushed, the two waits for the last stores leave every destination written and both slots at rest. -/
theorem run_drain (K : Dev nD × CI → ℕ) (O : CellTallies nD τ sig Unit) (hO : Above 0 O) (k : ℕ) (hk : k + 2 = n)
    {α : Type} (p : PUnit → Prog (TpuEff nD τ sig (Elt F) Λ₀ .tc) α) (Q : α → sProp 𝕄) :
    iprop(records m K ∗ G.inv n ∗ owing d O)
      ⊢ iprop((((bigSep Finset.univ G.done ∗ G.free (par k) ∗ G.free (par (k + 1))) ∗ owing d O) -∗ run d (p ⟨⟩) Q)
        -∗ run d (St.waitStore (F := F) k (by omega) >>= fun _ => St.waitStore (k + 1) (by omega) >>= p) Q) := by
  subst hk
  unfold inv
  rw [G.before_two k (by omega), G.before_two (k + 1) (by omega), show k + 2 - 2 = k from rfl]
  have h₀ : k < k + 2 := by omega
  have h₁ : k + 1 < k + 2 := by omega
  iintro ⟨#HR, ⟨-, Hd, Hs, Hs'⟩, Ho⟩ Hk
  iapply (run_then (G.run_waitStore m K O hO k h₀)) $$ [Hs Ho]
  · isplitr; · iexact HR
    isplitl [Hs] <;> iassumption
  iintro ⟨Hd₁, Hf, Ho⟩
  iapply (run_then (G.run_waitStore m K O hO (k + 1) h₁)) $$ [Hs' Ho]
  · isplitr; · iexact HR
    isplitl [Hs'] <;> iassumption
  iintro ⟨Hd₂, Hf', Ho⟩
  iapply Hk
  isplitr [Ho]
  · rw [← upto_all G.done, upto_step (k + 1) (by omega), upto_step k (by omega)]
    isplitl [Hd Hd₁ Hd₂]
    · isplitl [Hd₂]; · iexact Hd₂
      isplitl [Hd₁] <;> iassumption
    isplitl [Hf] <;> iassumption
  iexact Ho

/-- A stager before its first push. -/
theorem inv_zero : iprop(bigSep Finset.univ G.todo ∗ G.free (par 0) ∗ G.free (par 1)) ⊢ G.inv 0 := by
  unfold inv
  rw [G.before_zero, G.before_one, from_zero, show 0 - 2 = 0 from rfl, upto_zero]
  iintro ⟨H, H', H''⟩
  isplitl [H]; · iexact H
  isplitr; · iempintro
  isplitl [H'] <;> iassumption

end Staging

/-! ## Loops -/

/-- A loop keeps what each of its turns keeps. -/
theorem run_loop {d : Dev nD} {n : ℕ} (K : Dev nD × CI → ℕ) (f : (k : ℕ) → k < n → Prog (TpuEff nD τ sig (Elt F) Λ₀ .tc) PUnit) (I : ℕ → sProp 𝕄)
    (hf : ∀ k h, iprop(records m K ∗ I k) ⊢ run d (f k h) (fun _ => I (k + 1))) :
    (j k : ℕ) → (h : k + j = n) → iprop(records m K ∗ I k) ⊢ run d (loop n f j k h) (fun _ => I n)
  | 0, k, h => by
    subst h
    unfold loop run
    rw [Prog.pure_eq_ret, wp_ret]
    iintro ⟨-, H⟩
    imodintro; iexact H
  | j + 1, k, h => by
    unfold loop
    have h₀ : k < n := by omega
    have h₁ : k + 1 + j = n := by omega
    iintro ⟨#HR, H⟩
    iapply (run_then (hf k h₀)) $$ [H]
    · isplitr; · iexact HR
      iexact H
    iintro H
    iapply (run_loop K f I hf j (k + 1) h₁)
    isplitr; · iexact HR
    iexact H

/-! ## The talk with the other devices -/

/-- A barrier signal hands its peer what the peer's barrier promises. -/
theorem run_signal (K : Dev nD × CI → ℕ) (d p : Dev nD) (b : Bool) (O : CellTallies nD τ sig Unit) :
    iprop(records m K ∗ owing d (O + tallyAt (bar p) () 1) ∗ dutyTok ER (bar p) 0 b ∗ barPay p b)
      ⊢ run d (semSignalWord p barS 1#32) (fun _ => owing d O) := by
  unfold owing
  simp only [semSignalWord, Prog.lift]
  iintro ⟨#HR, ⟨%W, Ho⟩, Ht, Hp⟩
  iapply (Rounds.wp_signal 𝒱₀ ER (Rd m) (d : Thread nD τ) none (dst := (p : Thread nD τ)) (κ := K (p, none))
      (d := b) (by rw [duties_bar]; exact Finset.mem_univ _) ((amount_bar m p b).trans (by decide)) () O rfl) $$ [Ho Ht Hp]
  · isplitr; · iapply (inv_bar m K p); iexact HR
    isplitl [Ho]; · iexact Ho
    isplitl [Ht]; · iexact Ht
    isplitl [Hp]; · rw [payload_bar]; iexact Hp
    iapply (reached_bar m K p); iexact HR
  iintro Ho
  rw [wp_ret]; imodintro
  iexists W; iexact Ho

/-- The barrier's wait for both peers: room in both receive buffers. -/
theorem run_barrier (K : Dev nD × CI → ℕ) (d : Dev nD) (O : CellTallies nD τ sig Unit) (hO : Above 1 O) :
    iprop(records m K ∗ cred (tallyAt (bar d) () 2) ∗ atPos ER (bar d) 0 ∅ 0 ∗ owing d O)
      ⊢ run d (semWaitWord barS 2#32) (fun _ => iprop(((bigSep Finset.univ fun c : Fin 32 => landing (pY d) d c)
          ∗ bigSep Finset.univ fun c : Fin 32 => landing (pX d) d c) ∗ semVal (bar d) 0 ∗ owing d O)) := by
  unfold owing
  simp only [semWaitWord, Prog.lift]
  iintro ⟨#HR, Hc, Hat, ⟨%W, Ho⟩⟩
  iapply (Rounds.wp_wait_rest_token 𝒱₀ ER (Rd m) (d : Thread nD τ) none (κ := K (d, none))
      (wpE_semWait_eq 𝒱₀ (d : Thread nD τ) none Set.univ) (Set.mem_univ _) () (O := O) (W := W) (R := 0) (m := 0) (T := ∅)
      (by rw [expect_bar]; decide)) $$ [Hc Ho Hat]
  · isplitr; · iapply (inv_bar m K d); iexact HR
    isplitl [Hc]; · iexact Hc
    isplitl [Ho]; · iexact Ho
    isplitr
    · iapply (mayWait 1 d (.reg barS) (Nat.le_of_eq (lv_bar d ())) O hO)
      iapply (records_levels m K); iexact HR
    iexact Hat
  iintro ⟨Ho, Hat, -, Hp⟩
  ihave Hp := (Entails.of_eq (rest_bar m d)) $$ Hp
  imod (Rounds.cell_close ER (Rd m) (Set.mem_univ (K (d, none))) (fun h => h) (R := 0 + 1) (duties_later m (bar d))) $$ [Hat] with Hz
  · isplitr; · iapply (inv_bar m K d); iexact HR
    iexact Hat
  rw [wp_ret]; imodintro
  isplitl [Hp]; · iexact Hp
  isplitl [Hz]; · iexact Hz
  iexists _; iexact Ho

/-- A wait at a cell of a row: what the cell hands over, and the cell's counter at zero again. -/
theorem run_wait (K : Dev nD × CI → ℕ) (d : Dev nD) (k : Fin 4) (c : Fin 32) {q : DmaSem sig} (hq : q = dq k c)
    (src dst : Hbm S512x1024) (hs : src.view.WordExact) (hd : dst.view.WordExact)
    (n : ℕ) (hn : (if k = 1 then 2 else if k = 3 then 3 else 0) = n) (O : CellTallies nD τ sig Unit) (hO : Above n O) :
    iprop(records m K ∗ cred (tallyAt (cell d k c) () NC) ∗ atPos ER (cell d k c) 0 ∅ 0 ∗ owing d O)
      ⊢ run d (Prog.lift (.waitDma2 q src dst hs hd)) (fun _ => iprop(pay m d k c ∗ semVal (cell d k c) 0 ∗ owing d O)) := by
  subst hq
  unfold owing
  simp only [Prog.lift]
  iintro ⟨#HR, Hc, Hat, ⟨%W, Ho⟩⟩
  iapply (Rounds.wp_wait_rest_token 𝒱₀ ER (Rd m) (d : Thread nD τ) none (κ := K (d, some (k, c)))
      (wpE_waitDma2_eq 𝒱₀ (d : Thread nD τ) none Set.univ) (Set.mem_univ _) () (O := O) (W := W) (R := 0) (m := 0) (T := ∅)
      (by rw [Nat.zero_add, expect_cell])) $$ [Hc Ho Hat]
  · isplitr; · iapply (inv_cell m K d k c); iexact HR
    isplitl [Hc]; · iexact Hc
    isplitl [Ho]; · iexact Ho
    isplitr
    · iapply (mayWait n d (.dma (dq k c)) (Nat.le_of_eq ((lv_cell d k c ()).trans hn)) O hO)
      iapply (records_levels m K); iexact HR
    iexact Hat
  iintro ⟨Ho, Hat, -, Hp⟩
  ihave Hp := (Entails.of_eq (rest_cell m d k c)) $$ Hp
  imod (Rounds.cell_close ER (Rd m) (Set.mem_univ (K (d, some (k, c)))) (fun h => h) (R := 0 + 1) (duties_later m (cell d k c))) $$ [Hat] with Hz
  · isplitr; · iapply (inv_cell m K d k c); iexact HR
    iexact Hat
  rw [wp_ret]; imodintro
  isplitl [Hp]; · iexact Hp
  isplitl [Hz]; · iexact Hz
  iexists _; iexact Ho

theorem drop (P : sProp 𝕄) : P ⊢ iprop(emp) := by iintro -; iempintro

/-- A send of a chunk into a peer's buffer, which is to read `G` there: the peer is owed one chunk less, and the device
    holds the credit of its own sending cell. -/
theorem run_send (K : Dev nD × CI → ℕ) (d p : Dev nD) (k₁ k₂ : Fin 4) (c : Fin 32) {sS sR : DmaSem sig} (hS : sS = dq k₁ c)
    (hR : sR = dq k₂ c) (src dst : Hbm S512x1024) (hs : src.view.WordExact) (hd : dst.view.WordExact)
    {hsc : dst.view.ref.isScScratch = false} (hsem : DmaTarget.Typed .hbm (.dma sR) (.remote (Dev.tc p) dst (.dma sS) hsc))
    (q : PosShare TreeShare) (fs : Buf (Elt F) (src.view.loc (d : Thread nD τ)))
    (G : Buf (Elt F) (dst.view.loc (p : Thread nD τ))) (hG : dst.view.read (Elt F) G = src.view.read (Elt F) fs)
    (hp₁ : pay m d k₁ c = iprop(emp)) (hp₂ : (dst.view.loc (p : Thread nD τ) ↦[dst.view.set]{fullShare} G) ⊢ pay m p k₂ c)
    (O : CellTallies nD τ sig Unit) :
    iprop(records m K ∗ (src.view.loc (d : Thread nD τ) ↦[src.view.set]{q} fs)
        ∗ (∃ f : Buf (Elt F) (dst.view.loc (p : Thread nD τ)), dst.view.loc (p : Thread nD τ) ↦[dst.view.set]{fullShare} f)
        ∗ owing d (O + tallyAt (cell p k₂ c) () NC) ∗ dutyTok ER (cell d k₁ c) 0 false ∗ dutyTok ER (cell p k₂ c) 0 false)
      ⊢ run d (Prog.lift (.enqueueDma src (.remote (Dev.tc p) dst (.dma sS) hsc) (.dma sR) hs hd hsem))
          (fun _ => iprop(cred (tallyAt (cell d k₁ c) () NC) ∗ owing d O)) := by
  subst hS hR
  unfold owing
  simp only [Prog.lift]
  iintro ⟨#HR, Hs, ⟨%f, Hd⟩, ⟨%W, Ho⟩, Ht₁, Ht₂⟩
  iapply (Rounds.wp_send_pointsTo 𝒱₀ ER (Rd m) (d : Thread nD τ) none (κ₁ := K (d, some (k₁, c))) (κ₂ := K (p, some (k₂, c)))
      (r₁ := 0) (r₂ := 0) (d₁ := false) (d₂ := false) (fd := f)
      (by rw [duties_cell]; exact Finset.mem_singleton_self _) (by rw [duties_cell]; exact Finset.mem_singleton_self _)
      () () NC rfl (amount_cell m d k₁ c false) (amount_cell m p k₂ c false) O rfl (W := W)
      (by rw [payload_cell, hp₁]; exact drop _)
      (by
        rw [payload_cell]
        refine (Entails.of_eq (pointsTo_congr fun i hi => ?_)).trans hp₂
        rw [← hG]
        exact write_read_eq dst.view f G i hi)) $$ [Hs Hd Ho Ht₁ Ht₂]
  · isplitr; · iapply (inv_cell m K d k₁ c); iexact HR
    isplitr; · iapply (inv_cell m K p k₂ c); iexact HR
    isplitl [Hs]; · iexact Hs
    isplitl [Hd]; · iexact Hd
    isplitl [Ho]; · iexact Ho
    isplitl [Ht₁]; · iexact Ht₁
    isplitr; · iapply (reached_cell m K d k₁ c); iexact HR
    isplitl [Ht₂]; · iexact Ht₂
    iapply (reached_cell m K p k₂ c); iexact HR
  iintro ⟨Hc, Ho⟩
  rw [wp_ret]; imodintro
  isplitl [Hc]; · iexact Hc
  iexists W; iexact Ho

end Cert.KernelIdeal.AllGather
-- ==== Proof.Run.lean ====
/- One run of the body on a device: its phases are loops that keep an invariant, and at the end every row of the result
   is written, every slot at rest and every semaphore at zero. -/
module

public import proofs.«01_k».proof.Proof.Steps

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three stagers -/

/-- The shares of the input block: one half stays with the device, the other is halved between its own loads and its
    sends along "y". -/
abbrev qKeep : PosShare TreeShare := fullShare.right
abbrev qLoad : PosShare TreeShare := fullShare.left.left
abbrev qSend : PosShare TreeShare := fullShare.left.right

/-- The semaphores of the stagers come before the rows. -/
theorem pair_lt (i : Fin 2) : (pairSem cc0_scratch1 i).val < 12 ∧ (pairSem cc0_scratch2 i).val < 12
    ∧ (pairSem cc0_scratch4 i).val < 12 ∧ (pairSem cc0_scratch5 i).val < 12
    ∧ (pairSem cc0_scratch7 i).val < 12 ∧ (pairSem cc0_scratch8 i).val < 12 := by revert i; decide +kernel

/-- The device's own block goes to its place in the result, -/
def ownG (d : Dev nD) : Staging (F := F) (own d) d where
  fs _ := m ((d : Thread nD τ).loc main_arg0)
  gs _ := outF m d
  q := qLoad
  hval c := land_own m d c
  hS := by decide
  hi i := (pair_lt i).1
  ho i := (pair_lt i).2.1

/-- so do the chunks received along "y", -/
def yG (d : Dev nD) : Staging (F := F) (stY d) d where
  fs _ := commF m d
  gs _ := outF m d
  q := fullShare.right
  hval c := land_outY m d c
  hS := by decide
  hi i := (pair_lt i).2.2.1
  ho i := (pair_lt i).2.2.2.1

/-- and those received along "x". -/
def xG (d : Dev nD) : Staging (F := F) (stX d) d where
  fs _ := commF m d
  gs _ := outF m d
  q := fullShare
  hval c := land_outX m d c
  hS := by decide
  hi i := (pair_lt i).2.2.2.2.1
  ho i := (pair_lt i).2.2.2.2.2

/-! ## What the rows hold, chunk by chunk -/

/-- The credit of a cell, the position at a cell before its round, the right to meet its duty, its counter at zero. -/
abbrev cr (d : Dev nD) (k : Fin 4) (c : Fin 32) : sProp 𝕄 := cred (tallyAt (cell d k c) () NC)
abbrev pos (d : Dev nD) (k : Fin 4) (c : Fin 32) : sProp 𝕄 := atPos ER (cell d k c) 0 ∅ 0
abbrev tok (d : Dev nD) (k : Fin 4) (c : Fin 32) : sProp 𝕄 := dutyTok ER (cell d k c) 0 false
abbrev zero (d : Dev nD) (k : Fin 4) (c : Fin 32) : sProp 𝕄 := semVal (cell d k c) 0

/-- A chunk to be sent along "y". -/
def xPt (d : Dev nD) (c : Fin 32) : sProp 𝕄 :=
  (xC d c).view.loc (d : Thread nD τ) ↦[(xC d c).view.set]{qSend} m ((d : Thread nD τ).loc main_arg0)

/-- The send along "y" of a chunk, from the chunk and room for it. -/
theorem run_sendY (K : Dev nD × CI → ℕ) (d : Dev nD) (c : Fin 32) (O : CellTallies nD τ sig Unit) :
    iprop(records m K ∗ xPt m d c ∗ landing (pY d) d c ∗ owing d (O + tallyAt (cell (pY d) 1 c) () NC) ∗ tok d 0 c ∗ tok (pY d) 1 c)
      ⊢ run d (sendY d c) (fun _ => iprop(cr d 0 c ∗ owing d O)) :=
  run_send m K d (pY d) 0 1 c (ySend_eq c) (yRecv_eq c) (xC d c) (commC d c) _ _ _ qSend _ (commF m (pY d)) (land_sendY m d c) rfl
    (by
      show _ ⊢ arrY m (pY d) c
      unfold arrY; rw [commC_pY])
    O

/-- The send along "x" of a chunk, from one half of what arrived along "y" and room for it. -/
theorem run_sendX (K : Dev nD × CI → ℕ) (d : Dev nD) (c : Fin 32) (O : CellTallies nD τ sig Unit) :
    iprop(records m K ∗ ((commC d c).view.loc (d : Thread nD τ) ↦[(commC d c).view.set]{fullShare.left} commF m d) ∗ landing (pX d) d c
        ∗ owing d (O + tallyAt (cell (pX d) 3 c) () NC) ∗ tok d 2 c ∗ tok (pX d) 3 c)
      ⊢ run d (sendX d c) (fun _ => iprop(cr d 2 c ∗ owing d O)) :=
  run_send m K d (pX d) 2 3 c (xSend_eq c) (xRecv_eq c) (commC d c) (commC d c) _ _ _ fullShare.left _ (commF m (pX d)) (land_sendX m d c) rfl
    (by
      show _ ⊢ arrX m (pX d) c
      unfold arrX; rw [commO_pX])
    O

/-! ## The phases -/

/-- What a chunk needs in each phase, and what it leaves. -/
def sendRes (d : Dev nD) (c : Fin 32) : sProp 𝕄 := iprop(xPt m d c ∗ landing (pY d) d c ∗ tok d 0 c ∗ tok (pY d) 1 c)
def pairRes (d : Dev nD) (c : Fin 32) : sProp 𝕄 := iprop(cr d 1 c ∗ pos d 1 c ∗ landing (pX d) d c ∗ tok d 2 c ∗ tok (pX d) 3 c)
def pairOut (d : Dev nD) (c : Fin 32) : sProp 𝕄 := iprop(cr d 2 c ∗ zero d 1 c)
def lastRes (d : Dev nD) (c : Fin 32) : sProp 𝕄 := iprop(cr d 3 c ∗ pos d 3 c)
def sentRes (d : Dev nD) (c : Fin 32) : sProp 𝕄 := iprop(cr d 0 c ∗ cr d 2 c ∗ pos d 0 c ∗ pos d 2 c)
def sentOut (d : Dev nD) (c : Fin 32) : sProp 𝕄 := iprop(zero d 0 c ∗ zero d 2 c)

theorem oY_step (d : Dev nD) (k : ℕ) (h : k < 32) : oY d k = oY d (k + 1) + tallyAt (cell (pY d) 1 ⟨k, h⟩) () NC := dues_step _ k h
theorem oX_step (d : Dev nD) (k : ℕ) (h : k < 32) : oX d k = oX d (k + 1) + tallyAt (cell (pX d) 3 ⟨k, h⟩) () NC := dues_step _ k h

/-- The sends along "y", before chunk `k`. -/
def sendInv (d : Dev nD) (k : ℕ) : sProp 𝕄 := iprop(From k (sendRes m d) ∗ Upto k (cr d 0) ∗ owing d (oX d 0 + oY d k))

theorem send_step (K : Dev nD × CI → ℕ) (d : Dev nD) (k : ℕ) (h : k < 32) :
    iprop(records m K ∗ sendInv m d k) ⊢ run d (sendY d ⟨k, h⟩) (fun _ => sendInv m d (k + 1)) := by
  unfold sendInv
  rw [from_step k h, upto_step k h, oY_step d k h, ← add_assoc, sendRes]
  iintro ⟨#HR, ⟨⟨Hx, Hl, Ht, Ht'⟩, Hs⟩, Hc, Ho⟩
  iapply (run_last (run_sendY m K d ⟨k, h⟩ _)) $$ [Hx Hl Ho Ht Ht']
  · isplitr; · iexact HR
    isplitl [Hx]; · iexact Hx
    isplitl [Hl]; · iexact Hl
    isplitl [Ho]; · iexact Ho
    isplitl [Ht] <;> iassumption
  iintro ⟨Hc', Ho⟩
  isplitl [Hs]; · iexact Hs
  isplitl [Hc Hc']
  · isplitl [Hc'] <;> iassumption
  iexact Ho

/-- The first phase before chunk `k`, the stagers aside: the rows, and with what the device owes. -/
def recvRows (d : Dev nD) (k : ℕ) : sProp 𝕄 := iprop(From k (pairRes d) ∗ Upto k (pairOut d))
abbrev recvInv (d : Dev nD) (k : ℕ) : sProp 𝕄 := iprop(recvRows d k ∗ owing d (oX d k))

theorem above_oX (n : ℕ) (h : n < 3) (d : Dev nD) (k : ℕ) : Above n (oX d k) := above_dues (pX d) 3 h k

/-- A chunk arrives along "y" and goes on along "x"; the device keeps the other half of it. -/
theorem recv_step (K : Dev nD × CI → ℕ) (d : Dev nD) (k : ℕ) (h : k < 32)
    {α : Type} (p : PUnit → Prog (TpuEff nD τ sig (Elt F) Λ₀ .tc) α) (Q : α → sProp 𝕄) :
    iprop(records m K ∗ recvInv d k)
      ⊢ iprop(((recvInv d (k + 1) ∗ (yG m d).inPt ⟨k, h⟩) -∗ run d (p ⟨⟩) Q)
        -∗ run d (waitY d ⟨k, h⟩ >>= fun _ => sendX d ⟨k, h⟩ >>= p) Q) := by
  unfold recvInv recvRows
  rw [from_step k h, upto_step k h, pairRes, pairOut]
  iintro ⟨#HR, ⟨⟨⟨Hc, Hat, Hl, Ht, Ht'⟩, Hs⟩, Hd⟩, Ho⟩ Hk
  iapply (run_then (run_wait m K d 1 ⟨k, h⟩ (yRecv_eq _) (xC d ⟨k, h⟩) (commC d ⟨k, h⟩) _ _ 2 rfl (oX d k) (above_oX 2 (by decide) d k))) $$ [Hc Hat Ho]
  · isplitr; · iexact HR
    isplitl [Hc]; · iexact Hc
    isplitl [Hat] <;> iassumption
  iintro ⟨Hp, Hz, Ho⟩
  ihave Hp := (show pay m d 1 ⟨k, h⟩ ⊢ _ from (pointsTo_share (PosShare.mem_left_op_right fullShare)).1) $$ Hp
  icases Hp with ⟨Hp, Hp'⟩
  rw [oX_step d k h]
  iapply (run_then (run_sendX m K d ⟨k, h⟩ _)) $$ [Hp Hl Ho Ht Ht']
  · isplitr; · iexact HR
    isplitl [Hp]; · iexact Hp
    isplitl [Hl]; · iexact Hl
    isplitl [Ho]; · iexact Ho
    isplitl [Ht] <;> iassumption
  iintro ⟨Hc, Ho⟩
  iapply Hk
  isplitr [Hp']
  · isplitr [Ho]
    · isplitl [Hs]; · iexact Hs
      isplitr [Hd]
      · isplitl [Hc] <;> iassumption
      iexact Hd
    iexact Ho
  unfold Staging.inPt yG
  iexact Hp'

/-- The first phase before pair `k`. -/
def pairInv (d : Dev nD) (k : ℕ) : sProp 𝕄 :=
  iprop(recvInv d (2 * k) ∗ (yG m d).inv (2 * k) ∗ From k (ownG m d).inPt ∗ (ownG m d).inv k)

theorem pair_step (K : Dev nD × CI → ℕ) (d : Dev nD) (k : ℕ) (h : k < 16) :
    iprop(records m K ∗ pairInv m d k) ⊢ run d (pairStep d k h) (fun _ => pairInv m d (k + 1)) := by
  have h₀ : 2 * k < 32 := by omega
  have h₁ : 2 * k + 1 < 32 := by omega
  unfold pairInv pairStep
  rw [from_step k h]
  iintro ⟨#HR, Hr, Hy, ⟨Hin, Hins⟩, Hown⟩
  iapply (recv_step m K d (2 * k) h₀) $$ [Hr]
  · isplitr; · iexact HR
    iexact Hr
  iintro ⟨⟨Hr, Ho⟩, Hyin⟩
  iapply (run_then ((ownG m d).run_push m K _ (above_oX 0 (by decide) d (2 * k + 1)) k h)) $$ [Hown Hin Ho]
  · isplitr; · iexact HR
    isplitl [Hown]; · iexact Hown
    isplitl [Hin] <;> iassumption
  iintro ⟨Hown, Ho⟩
  iapply (run_then ((yG m d).run_push m K _ (above_oX 0 (by decide) d (2 * k + 1)) (2 * k) h₀)) $$ [Hy Hyin Ho]
  · isplitr; · iexact HR
    isplitl [Hy]; · iexact Hy
    isplitl [Hyin] <;> iassumption
  iintro ⟨Hy, Ho⟩
  iapply (recv_step m K d (2 * k + 1) h₁) $$ [Hr Ho]
  · isplitr; · iexact HR
    isplitl [Hr] <;> iassumption
  iintro ⟨⟨Hr, Ho⟩, Hyin⟩
  iapply (run_last ((yG m d).run_push m K _ (above_oX 0 (by decide) d (2 * k + 1 + 1)) (2 * k + 1) h₁)) $$ [Hy Hyin Ho]
  · isplitr; · iexact HR
    isplitl [Hy]; · iexact Hy
    isplitl [Hyin] <;> iassumption
  iintro ⟨Hy, Ho⟩
  rw [show 2 * (k + 1) = 2 * k + 1 + 1 from by omega]
  isplitl [Hr Ho]
  · isplitl [Hr] <;> iassumption
  isplitl [Hy]; · iexact Hy
  isplitl [Hins] <;> iassumption

/-- The second phase before chunk `k`. -/
def lastInv (d : Dev nD) (k : ℕ) : sProp 𝕄 :=
  iprop(From k (lastRes d) ∗ Upto k (zero d 3) ∗ (xG m d).inv k ∗ owing d 0)

theorem last_step (K : Dev nD × CI → ℕ) (d : Dev nD) (k : ℕ) (h : k < 32) :
    iprop(records m K ∗ lastInv m d k) ⊢ run d (xStep d k h) (fun _ => lastInv m d (k + 1)) := by
  unfold lastInv xStep
  rw [from_step k h, upto_step k h, lastRes]
  iintro ⟨#HR, ⟨⟨Hc, Hat⟩, Hs⟩, Hd, Hx, Ho⟩
  iapply (run_then (run_wait m K d 3 ⟨k, h⟩ (xRecv_eq _) (commC d ⟨k, h⟩) (commC d ⟨k, h⟩) _ _ 3 rfl 0 (above_zero 3))) $$ [Hc Hat Ho]
  · isplitr; · iexact HR
    isplitl [Hc]; · iexact Hc
    isplitl [Hat] <;> iassumption
  iintro ⟨Hp, Hz, Ho⟩
  iapply (run_last ((xG m d).run_push m K 0 (above_zero 0) k h)) $$ [Hx Hp Ho]
  · isplitr; · iexact HR
    isplitl [Hx]; · iexact Hx
    isplitl [Hp]; · iapply (show pay m d 3 ⟨k, h⟩ ⊢ (xG m d).inPt ⟨k, h⟩ from Entails.refl _); iexact Hp
    iexact Ho
  iintro ⟨Hx, Ho⟩
  isplitl [Hs]; · iexact Hs
  isplitl [Hd Hz]
  · isplitl [Hz] <;> iassumption
  isplitl [Hx] <;> iassumption

/-- The waits for the sends before chunk `k`. -/
def sentInv (d : Dev nD) (k : ℕ) : sProp 𝕄 := iprop(From k (sentRes d) ∗ Upto k (sentOut d) ∗ owing d 0)

theorem sent_step (K : Dev nD × CI → ℕ) (d : Dev nD) (k : ℕ) (h : k < 32) :
    iprop(records m K ∗ sentInv (F := F) d k) ⊢ run d (sentStep d k h) (fun _ => sentInv d (k + 1)) := by
  unfold sentInv sentStep
  rw [from_step k h, upto_step k h, sentRes, sentOut]
  iintro ⟨#HR, ⟨⟨Hc, Hc', Hat, Hat'⟩, Hs⟩, Hd, Ho⟩
  iapply (run_then (run_wait m K d 0 ⟨k, h⟩ (ySend_eq _) (commC d ⟨k, h⟩) (xC d ⟨k, h⟩) _ _ 0 rfl 0 (above_zero 0))) $$ [Hc Hat Ho]
  · isplitr; · iexact HR
    isplitl [Hc]; · iexact Hc
    isplitl [Hat] <;> iassumption
  iintro ⟨-, Hz, Ho⟩
  iapply (run_last (run_wait m K d 2 ⟨k, h⟩ (xSend_eq _) (commC d ⟨k, h⟩) (commC d ⟨k, h⟩) _ _ 0 rfl 0 (above_zero 0))) $$ [Hc' Hat' Ho]
  · isplitr; · iexact HR
    isplitl [Hc']; · iexact Hc'
    isplitl [Hat'] <;> iassumption
  iintro ⟨-, Hz', Ho⟩
  isplitl [Hs]; · iexact Hs
  isplitr [Ho]
  · isplitr [Hd]
    · isplitl [Hz] <;> iassumption
    iexact Hd
  iexact Ho

/-! ## Families -/

/-- A family taken apart member by member, and two families put together. -/
theorem fam_split {I : Type} [Fintype I] [DecidableEq I] {Φ A B : I → sProp 𝕄} (h : ∀ i, Φ i ⊢ iprop(A i ∗ B i)) :
    bigSep Finset.univ Φ ⊢ iprop(bigSep Finset.univ A ∗ bigSep Finset.univ B) :=
  (bigSep_mono fun i _ => h i).trans (Entails.of_eq (bigSep_sep _ _ _))
theorem fam_join {I : Type} [Fintype I] [DecidableEq I] {Φ A B : I → sProp 𝕄} (h : ∀ i, iprop(A i ∗ B i) ⊢ Φ i) :
    iprop(bigSep Finset.univ A ∗ bigSep Finset.univ B) ⊢ bigSep Finset.univ Φ :=
  (Entails.of_eq (bigSep_sep _ _ _).symm).trans (bigSep_mono fun i _ => h i)

/-- What a device holds for a chunk at launch, by phase. -/
def sendRow (d : Dev nD) (c : Fin 32) : sProp 𝕄 := iprop(tok d 0 c ∗ tok (pY d) 1 c)
def pairRow (d : Dev nD) (c : Fin 32) : sProp 𝕄 := iprop(cr d 1 c ∗ pos d 1 c ∗ tok d 2 c ∗ tok (pX d) 3 c)
def sentRow (d : Dev nD) (c : Fin 32) : sProp 𝕄 := iprop(pos d 0 c ∗ pos d 2 c)

/-- With its chunk and the room for it, a row is what the sends along "y" need; with room along "x", what the first phase
    needs; with the credits of the sends, what the last waits need. -/
theorem send_join (d : Dev nD) :
    iprop(bigSep Finset.univ (sendRow d) ∗ bigSep Finset.univ (xPt m d) ∗ bigSep Finset.univ (landing (pY d) d)) ⊢ From 0 (sendRes m d) := by
  rw [from_zero]
  iintro ⟨H, H'⟩
  ihave H' := (fam_join (Φ := fun c => iprop(xPt m d c ∗ landing (pY d) d c)) fun c => Entails.refl _) $$ H'
  iapply (fam_join (A := sendRow d) (B := fun c => iprop(xPt m d c ∗ landing (pY d) d c)) (Φ := sendRes m d) fun c => by
    unfold sendRow sendRes
    iintro ⟨⟨H1, H2⟩, H3, H4⟩
    isplitl [H3]; · iexact H3
    isplitl [H4]; · iexact H4
    isplitl [H1] <;> iassumption)
  isplitl [H] <;> iassumption
theorem pair_join (d : Dev nD) :
    iprop(bigSep Finset.univ (pairRow (F := F) d) ∗ bigSep Finset.univ (landing (pX d) d)) ⊢ From 0 (pairRes d) := by
  rw [from_zero]
  refine fam_join fun c => ?_
  unfold pairRow pairRes
  iintro ⟨⟨H1, H2, H3, H4⟩, H5⟩
  isplitl [H1]; · iexact H1
  isplitl [H2]; · iexact H2
  isplitl [H5]; · iexact H5
  isplitl [H3] <;> iassumption
theorem sent_join (d : Dev nD) :
    iprop(bigSep Finset.univ (sentRow (F := F) d) ∗ Upto 32 (cr d 0) ∗ Upto 32 (pairOut d))
      ⊢ iprop(From 0 (sentRes d) ∗ bigSep Finset.univ (zero d 1)) := by
  rw [from_zero, upto_all, upto_all]
  iintro ⟨H, H'⟩
  ihave H' := (fam_join (Φ := fun c => iprop(cr d 0 c ∗ pairOut d c)) fun c => Entails.refl _) $$ H'
  ihave H := (fam_join (A := sentRow d) (B := fun c => iprop(cr d 0 c ∗ pairOut d c)) (Φ := fun c => iprop(sentRes d c ∗ zero d 1 c)) fun c => by
    unfold sentRow sentRes pairOut
    iintro ⟨⟨H1, H2⟩, H3, H4, H5⟩
    isplitr [H5]
    · isplitl [H3]; · iexact H3
      isplitl [H4]; · iexact H4
      isplitl [H1] <;> iassumption
    iexact H5) $$ [H H']
  · isplitl [H] <;> iassumption
  iapply (fam_split fun c => Entails.refl _); iexact H

/-! ## The body -/

/-- What a device starts its body from, besides the records, -/
def bodyStart (d : Dev nD) : sProp 𝕄 :=
  iprop((cred (tallyAt (bar d) () 2) ∗ atPos ER (bar d) 0 ∅ 0 ∗ dutyTok ER (bar (pY d)) 0 false ∗ dutyTok ER (bar (pX d)) 0 true)
    ∗ (bigSep Finset.univ (landing d (pY d)) ∗ bigSep Finset.univ (landing d (pX d)))
    ∗ (bigSep Finset.univ (sendRow d) ∗ bigSep Finset.univ (pairRow d) ∗ bigSep Finset.univ (lastRes d) ∗ bigSep Finset.univ (sentRow d))
    ∗ (bigSep Finset.univ (xPt m d) ∗ bigSep Finset.univ (ownG m d).inPt)
    ∗ ((ownG m d).inv 0 ∗ (yG m d).inv 0 ∗ (xG m d).inv 0))
/-- (with everything owed to its peers), -/
def bodyPre (d : Dev nD) : sProp 𝕄 := iprop(owing d (O₀ d) ∗ bodyStart m d)

/-- and what it ends with: the result's chunks, the slots at rest, the semaphores at zero, -/
def bodyEnd (d : Dev nD) : sProp 𝕄 :=
  iprop((bigSep Finset.univ (ownG m d).done ∗ bigSep Finset.univ (yG m d).done ∗ bigSep Finset.univ (xG m d).done)
    ∗ (((ownG m d).free 0 ∗ (ownG m d).free 1) ∗ ((yG m d).free 0 ∗ (yG m d).free 1) ∗ ((xG m d).free 0 ∗ (xG m d).free 1))
    ∗ semVal (bar d) 0
    ∗ (bigSep Finset.univ (sentOut d) ∗ bigSep Finset.univ (zero d 1) ∗ bigSep Finset.univ (zero d 3)))
/-- and nothing owed. -/
def bodyPost (d : Dev nD) : sProp 𝕄 := iprop(owing d 0 ∗ bodyEnd m d)

/-- Everything owed at launch lies above the barrier, once the signals are given. -/
theorem above_bar (d : Dev nD) : Above 1 (oX d 0 + oY d 0) := above_add (above_oX 1 (by decide) d 0) (above_dues (pY d) 1 (by decide) 0)

/-- The room in a device's own buffer is what its peers' barriers promise them. -/
theorem give_Y (d : Dev nD) : bigSep Finset.univ (landing d (pY d)) ⊢ barPay (F := F) (pY d) false := by
  show _ ⊢ bigSep Finset.univ fun c : Fin 32 => landing (pY (pY d)) (pY d) c
  rw [pY_pY]
theorem give_X (d : Dev nD) : bigSep Finset.univ (landing d (pX d)) ⊢ barPay (F := F) (pX d) true := by
  show _ ⊢ bigSep Finset.univ fun c : Fin 32 => landing (pX (pX d)) (pX d) c
  rw [pX_pX]

/-- A program that asks for its device's number runs at that number. -/
theorem run_device (d : Dev nD) {α : Type} (p : Dev nD → Prog (TpuEff nD τ sig (Elt F) Λ₀ .tc) α) (Q : α → sProp 𝕄) :
    run d (p d) Q ⊢ run d (Prog.lift .deviceId >>= p) Q := by
  unfold run
  rw [wp_bind]
  simp only [Prog.lift, wp_deviceId]
  rw [wp_ret]
  iintro H; imodintro; iexact H

set_option maxHeartbeats 1000000 in
/-- The body runs from the one to the other. -/
theorem run_body (K : Dev nD × CI → ℕ) (d : Dev nD) :
    iprop(records m K ∗ bodyPre m d) ⊢ run d body (fun _ => bodyPost m d) := by
  unfold bodyPre bodyStart body
  refine BIBase.Entails.trans ?_ (run_device d _ _)
  iintro ⟨#HR, Ho, ⟨Hcb, Hatb, HtY, HtX⟩, ⟨HlY, HlX⟩, ⟨Hsend, Hpair, Hlast, Hsent⟩, ⟨HxP, Hin⟩, HO, HY, HX⟩
  iapply (run_then (run_signal m K d (pY d) false (O₁ d))) $$ [Ho HtY HlY]
  · isplitr; · iexact HR
    isplitl [Ho]; · iexact Ho
    isplitl [HtY]; · iexact HtY
    iapply (give_Y d); iexact HlY
  iintro Ho
  iapply (run_then (run_signal m K d (pX d) true (oX d 0 + oY d 0))) $$ [Ho HtX HlX]
  · isplitr; · iexact HR
    isplitl [Ho]; · iexact Ho
    isplitl [HtX]; · iexact HtX
    iapply (give_X d); iexact HlX
  iintro Ho
  iapply (run_then (run_barrier m K d _ (above_bar d))) $$ [Hcb Hatb Ho]
  · isplitr; · iexact HR
    isplitl [Hcb]; · iexact Hcb
    isplitl [Hatb] <;> iassumption
  iintro ⟨⟨HlY, HlX⟩, Hzb, Ho⟩
  -- the sends along "y"
  ihave Hsend := (send_join m d) $$ [Hsend HxP HlY]
  · isplitl [Hsend]; · iexact Hsend
    isplitl [HxP] <;> iassumption
  iapply (run_then (run_loop m K _ (sendInv m d) (send_step m K d) 32 0 rfl)) $$ [Hsend Ho]
  · isplitr; · iexact HR
    unfold sendInv
    rw [upto_zero]
    isplitl [Hsend]; · iexact Hsend
    isplitr; · iempintro
    iexact Ho
  unfold sendInv
  rw [show oY d 32 = 0 from dues_end _, add_zero]
  iintro ⟨-, Hcy, Ho⟩
  -- the first phase
  ihave Hpair := (pair_join d) $$ [Hpair HlX]
  · isplitl [Hpair] <;> iassumption
  iapply (run_then (run_loop m K _ (pairInv m d) (pair_step m K d) 16 0 rfl)) $$ [Hpair Ho HO HY Hin]
  · isplitr; · iexact HR
    unfold pairInv recvInv recvRows
    rw [show 2 * 0 = 0 from rfl, upto_zero, from_zero (ownG m d).inPt]
    isplitl [Hpair Ho]
    · isplitr [Ho]
      · isplitl [Hpair]; · iexact Hpair
        iempintro
      iexact Ho
    isplitl [HY]; · iexact HY
    isplitl [Hin] <;> iassumption
  unfold pairInv recvInv recvRows
  rw [show 2 * 16 = 32 from rfl, show oX d 32 = 0 from dues_end _]
  iintro ⟨⟨⟨-, Hout⟩, Ho⟩, HY, -, HO⟩
  -- the second
  iapply (run_then (run_loop m K _ (lastInv m d) (last_step m K d) 32 0 rfl)) $$ [Hlast HX Ho]
  · isplitr; · iexact HR
    unfold lastInv
    rw [upto_zero, from_zero]
    isplitl [Hlast]; · iexact Hlast
    isplitr; · iempintro
    isplitl [HX] <;> iassumption
  unfold lastInv
  iintro ⟨-, Hz3, HX, Ho⟩
  -- the last stores
  iapply ((ownG m d).run_drain m K 0 (above_zero 0) 14 rfl) $$ [HO Ho]
  · isplitr; · iexact HR
    isplitl [HO] <;> iassumption
  iintro ⟨⟨HdO, HfO⟩, Ho⟩
  iapply ((yG m d).run_drain m K 0 (above_zero 0) 30 rfl) $$ [HY Ho]
  · isplitr; · iexact HR
    isplitl [HY] <;> iassumption
  iintro ⟨⟨HdY, HfY⟩, Ho⟩
  iapply ((xG m d).run_drain m K 0 (above_zero 0) 30 rfl) $$ [HX Ho]
  · isplitr; · iexact HR
    isplitl [HX] <;> iassumption
  iintro ⟨⟨HdX, HfX⟩, Ho⟩
  -- the waits for the sends
  ihave Hs := (sent_join d) $$ [Hsent Hcy Hout]
  · isplitl [Hsent]; · iexact Hsent
    isplitl [Hcy] <;> iassumption
  icases Hs with ⟨Hs, Hz1⟩
  iapply (run_last (run_loop m K _ (sentInv d) (sent_step m K d) 32 0 rfl)) $$ [Hs Ho]
  · isplitr; · iexact HR
    unfold sentInv
    rw [upto_zero]
    isplitl [Hs]; · iexact Hs
    isplitr; · iempintro
    iexact Ho
  unfold sentInv
  iintro ⟨-, Hz, Ho⟩
  unfold bodyPost bodyEnd
  isplitl [Ho]; · iexact Ho
  isplitl [HdO HdY HdX]
  · isplitl [HdO]; · iexact HdO
    isplitl [HdY] <;> iassumption
  isplitl [HfO HfY HfX]
  · isplitl [HfO]; · iexact HfO
    isplitl [HfY]; · iexact HfY
    iexact HfX
  isplitl [Hzb]; · iexact Hzb
  rw [← upto_all (sentOut d), ← upto_all (zero d 3)]
  isplitl [Hz]; · iexact Hz
  isplitl [Hz1] <;> iassumption

end Cert.KernelIdeal.AllGather
-- ==== Proof.Slots.lean ====
/- The buffers on chip are their two slots. -/
module

public import proofs.«01_k».proof.Proof.Run

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer in two parts -/

/-- A buffer with some contents is its two parts with some contents, and the parts make the buffer again. -/
theorem two_parts (ℓ : Loc nD τ sig) (A B : Finset (Idx ℓ)) (hd : Disjoint A B) (hu : A ∪ B = Finset.univ) :
    iprop(∃ f : Buf (Elt F) ℓ, ℓ ↦{fullShare} f)
      ⊣⊢ (iprop((∃ f : Buf (Elt F) ℓ, ℓ ↦[A]{fullShare} f) ∗ (∃ f : Buf (Elt F) ℓ, ℓ ↦[B]{fullShare} f)) : sProp 𝕄) := by
  constructor
  · iintro ⟨%f, H⟩
    ihave H' := (show (ℓ ↦{fullShare} f : sProp 𝕄) ⊢ iprop((ℓ ↦[A]{fullShare} f) ∗ ℓ ↦[B]{fullShare} f) from by
      rw [← hu]; exact (pointsTo_union hd).1) $$ H
    icases H' with ⟨H1, H2⟩
    isplitl [H1]
    · iexists f; iexact H1
    iexists f; iexact H2
  · iintro ⟨⟨%f, H1⟩, ⟨%g, H2⟩⟩
    iexists B.piecewise g f
    iapply (show iprop((ℓ ↦[A]{fullShare} f) ∗ ℓ ↦[B]{fullShare} g) ⊢ (ℓ ↦{fullShare} B.piecewise g f : sProp 𝕄) from by
      have h := pointsTo_join (Ix := Unit) (Name := ℕ) (U := UU) (Lvl := ℕ) (ℓ := ℓ) (q := fullShare) (f := f) (g := g) hd
      rw [hu] at h; exact h)
    isplitl [H1] <;> iassumption

/-- The elements of a slot are those whose first coordinate is its number. -/
theorem mem_slab {R : ℕ} (i : Fin 2)
    (inb : ∀ a, (![i.val, 0, 0] : Fin 3 → ℕ) a + (⟨3, ![1, R, 1024]⟩ : Shape).size a ≤ (⟨3, ![2, R, 1024]⟩ : Shape).size a)
    (j : (⟨3, ![2, R, 1024]⟩ : Shape).Idx) :
    j ∈ (Rect.unit (s := ⟨3, ![2, R, 1024]⟩) ![i.val, 0, 0] (⟨3, ![1, R, 1024]⟩ : Shape).size inb).set ↔ (j (0 : Fin 3)).val = i.val := by
  rw [Rect.mem_set_unit]
  constructor
  · intro H
    have h0 : i.val ≤ (j (0 : Fin 3)).val ∧ (j (0 : Fin 3)).val < i.val + 1 := H (0 : Fin 3)
    omega
  · intro H a
    fin_cases a
    · show i.val ≤ (j (0 : Fin 3)).val ∧ (j (0 : Fin 3)).val < i.val + 1
      omega
    · exact ⟨Nat.zero_le _, by have h : (j (1 : Fin 3)).val < R := (j (1 : Fin 3)).isLt; simpa using h⟩
    · exact ⟨Nat.zero_le _, by have h : (j (2 : Fin 3)).val < 1024 := (j (2 : Fin 3)).isLt; simpa using h⟩

/-- So the two slots have no element in common and every element of the buffer. -/
theorem slab_parts {R : ℕ} (A B : Finset (⟨3, ![2, R, 1024]⟩ : Shape).Idx)
    (hA : ∀ j, j ∈ A ↔ (j (0 : Fin 3)).val = (0 : Fin 2).val) (hB : ∀ j, j ∈ B ↔ (j (0 : Fin 3)).val = (1 : Fin 2).val) :
    Disjoint A B ∧ A ∪ B = Finset.univ := by
  constructor
  · rw [Finset.disjoint_left]
    intro j h1 h2
    have e1 := (hA j).1 h1
    have e2 := (hB j).1 h2
    rw [e1] at e2; exact absurd e2 (by decide)
  · ext j
    have h : (j (0 : Fin 3)).val < 2 := (j (0 : Fin 3)).isLt
    have h0 : ((0 : Fin 2).val : ℕ) = 0 := rfl
    have h1 : ((1 : Fin 2).val : ℕ) = 1 := rfl
    rw [Finset.mem_union, hA, hB, h0, h1]
    simp only [Finset.mem_univ, iff_true]
    omega

/-! ## The three buffers on chip -/

theorem own_slots (d : Dev nD) :
    iprop(∃ f : Buf (Elt F) ((d : Thread nD τ).loc cc0_scratch0), ((d : Thread nD τ).loc cc0_scratch0) ↦{fullShare} f)
      ⊣⊢ (iprop((ownG m d).slotPt 0 ∗ (ownG m d).slotPt 1) : sProp 𝕄) :=
  have h := slab_parts _ _ (mem_slab (R := 2048) 0 (slotL_inb 0)) (mem_slab (R := 2048) 1 (slotL_inb 1))
  have e (i : Fin 2) : (slotL (Memref.whole cc0_scratch0) i).view.set = _ := (View.set_reshape _ _).trans (View.set_slice_whole _ _)
  two_parts ((d : Thread nD τ).loc cc0_scratch0) ((slotL (Memref.whole cc0_scratch0) 0).view.set) ((slotL (Memref.whole cc0_scratch0) 1).view.set)
    (by rw [e, e]; exact h.1) (by rw [e, e]; exact h.2)

theorem y_slots (d : Dev nD) :
    iprop(∃ f : Buf (Elt F) ((d : Thread nD τ).loc cc0_scratch3), ((d : Thread nD τ).loc cc0_scratch3) ↦{fullShare} f)
      ⊣⊢ (iprop((yG m d).slotPt 0 ∗ (yG m d).slotPt 1) : sProp 𝕄) :=
  have h := slab_parts _ _ (mem_slab (R := 512) 0 (slotC_inb 0)) (mem_slab (R := 512) 1 (slotC_inb 1))
  have e (i : Fin 2) : (slotC (Memref.whole cc0_scratch3) i).view.set = _ := (View.set_reshape _ _).trans (View.set_slice_whole _ _)
  two_parts ((d : Thread nD τ).loc cc0_scratch3) ((slotC (Memref.whole cc0_scratch3) 0).view.set) ((slotC (Memref.whole cc0_scratch3) 1).view.set)
    (by rw [e, e]; exact h.1) (by rw [e, e]; exact h.2)

theorem x_slots (d : Dev nD) :
    iprop(∃ f : Buf (Elt F) ((d : Thread nD τ).loc cc0_scratch6), ((d : Thread nD τ).loc cc0_scratch6) ↦{fullShare} f)
      ⊣⊢ (iprop((xG m d).slotPt 0 ∗ (xG m d).slotPt 1) : sProp 𝕄) :=
  have h := slab_parts _ _ (mem_slab (R := 512) 0 (slotC_inb 0)) (mem_slab (R := 512) 1 (slotC_inb 1))
  have e (i : Fin 2) : (slotC (Memref.whole cc0_scratch6) i).view.set = _ := (View.set_reshape _ _).trans (View.set_slice_whole _ _)
  two_parts ((d : Thread nD τ).loc cc0_scratch6) ((slotC (Memref.whole cc0_scratch6) 0).view.set) ((slotC (Memref.whole cc0_scratch6) 1).view.set)
    (by rw [e, e]; exact h.1) (by rw [e, e]; exact h.2)

end Cert.KernelIdeal.AllGather
-- ==== Proof.Deal.lean ====
/- What the launch deals out before the first step: the cells with their rounds and tokens, the semaphores at zero, and
   the credit for what the peers owe. -/
module

public import proofs.«01_k».proof.Proof.Slots
public import proofs.«01_k».proof.Proof.Gen.KernelIdeal.Launch

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a few indices -/

/-- A family over all rows is four families over the chunks. -/
theorem four_rows (Φ : Fin 4 → Fin 32 → sProp 𝕄) :
    (bigSep Finset.univ fun x : Fin 4 × Fin 32 => Φ x.1 x.2)
      = iprop(bigSep Finset.univ (Φ 0) ∗ bigSep Finset.univ (Φ 1) ∗ bigSep Finset.univ (Φ 2) ∗ bigSep Finset.univ (Φ 3)) := by
  rw [bigSep_univ_prod (fun x : Fin 4 × Fin 32 => Φ x.1 x.2)]
  exact bigSep_univ_eq_bigSepL [0, 1, 2, 3] (by decide) (by decide) (fun k : Fin 4 => bigSep Finset.univ (Φ k))

/-- A family over a device's cells is its barrier's member and those of its rows. -/
theorem barrier_rows (Φ : CI → sProp 𝕄) :
    bigSep Finset.univ Φ = iprop(Φ none ∗ bigSep Finset.univ fun x : Fin 4 × Fin 32 => Φ (some x)) := by
  have hu : (Finset.univ : Finset CI) = insert none (Finset.univ.map Function.Embedding.some) := by
    ext k; cases k <;> simp
  rw [hu, bigSep_insert (by simp), bigSep_map]
  rfl

/-! ## The kernel's semaphores -/

/-- The stagers' twelve semaphores, pair by pair. -/
def stageSem (a : Fin 6 × Fin 2) : DmaSem sig := match a.1 with
  | 0 => pairSem cc0_scratch1 a.2
  | 1 => pairSem cc0_scratch2 a.2
  | 2 => pairSem cc0_scratch4 a.2
  | 3 => pairSem cc0_scratch5 a.2
  | 4 => pairSem cc0_scratch7 a.2
  | 5 => pairSem cc0_scratch8 a.2
theorem stage_0 (i : Fin 2) : stageSem (0, i) = pairSem cc0_scratch1 i := rfl
theorem stage_1 (i : Fin 2) : stageSem (1, i) = pairSem cc0_scratch2 i := rfl
theorem stage_2 (i : Fin 2) : stageSem (2, i) = pairSem cc0_scratch4 i := rfl
theorem stage_3 (i : Fin 2) : stageSem (3, i) = pairSem cc0_scratch5 i := rfl
theorem stage_4 (i : Fin 2) : stageSem (4, i) = pairSem cc0_scratch7 i := rfl
theorem stage_5 (i : Fin 2) : stageSem (5, i) = pairSem cc0_scratch8 i := rfl
theorem stageSem_val (a : Fin 6 × Fin 2) : (stageSem a).val = 2 * a.1.val + a.2.val := by revert a; decide +kernel

/-- The semaphores of the kernel: the stagers' and the rows'. -/
abbrev OI := (Fin 6 × Fin 2) ⊕ (Fin 4 × Fin 32)
def osem : OI → SemLoc sig
  | .inl a => .dma (stageSem a)
  | .inr x => .dma (dq x.1 x.2)

theorem dma_scoped (q : DmaSem sig) : (SemLoc.dma q : SemLoc sig).isScoped .tc = true := by revert q; decide +kernel
theorem dq_inj {x y : Fin 4 × Fin 32} (h : dq x.1 x.2 = dq y.1 y.2) : x = y :=
  Prod.ext (by rw [← rowOf_dq x.1 x.2, h, rowOf_dq]) (by rw [← chunkOf_dq x.1 x.2, h, chunkOf_dq])
theorem stageSem_inj {a b : Fin 6 × Fin 2} (h : stageSem a = stageSem b) : a = b := by
  have h' := congrArg (fun q : DmaSem sig => q.val) h
  dsimp only at h'
  rw [stageSem_val, stageSem_val] at h'
  have ha := a.2.isLt; have hb := b.2.isLt
  exact Prod.ext (Fin.ext (by omega)) (Fin.ext (by omega))
theorem stage_row (a : Fin 6 × Fin 2) (x : Fin 4 × Fin 32) : stageSem a ≠ dq x.1 x.2 := fun h => by
  have h' := congrArg (fun q : DmaSem sig => q.val) h
  dsimp only at h'
  rw [stageSem_val, dq_val] at h'
  have ha := a.2.isLt; have hb := a.1.isLt
  omega

/-- They are scoped and pairwise distinct. -/
theorem ownSemFacts : Pipeline.OwnSemFacts cfg0.spec osem where
  isScoped k := by cases k <;> exact dma_scoped _
  inj k l h := by
    rcases k with a | x <;> rcases l with b | y
    · exact congrArg _ (stageSem_inj (SemLoc.dma.inj h))
    · exact absurd (SemLoc.dma.inj h) (stage_row a y)
    · exact absurd (SemLoc.dma.inj h).symm (stage_row b x)
    · exact congrArg _ (dq_inj (SemLoc.dma.inj h))
  disj _ w := w.elim0

/-- A stager's semaphores at zero. -/
def Staging.atRest {n : ℕ} {S : Shape} {St : Stager n S} {d : Dev nD} (G : Staging (F := F) St d) : sProp 𝕄 :=
  iprop((G.isem0 0 ∗ G.isem0 1) ∗ (G.osem0 0 ∗ G.osem0 1))
/-- With room in the slots they are the slots at rest. -/
theorem Staging.free_both {n : ℕ} {S : Shape} {St : Stager n S} {d : Dev nD} (G : Staging (F := F) St d) :
    iprop((G.slotPt 0 ∗ G.slotPt 1) ∗ G.atRest) ⊣⊢ iprop(G.free 0 ∗ G.free 1) := by
  unfold Staging.atRest Staging.free
  constructor
  · iintro ⟨⟨H0, H1⟩, ⟨Hi0, Hi1⟩, Ho0, Ho1⟩
    isplitl [H0 Hi0 Ho0]
    · isplitl [H0]; · iexact H0
      isplitl [Hi0] <;> iassumption
    isplitl [H1]; · iexact H1
    isplitl [Hi1] <;> iassumption
  · iintro ⟨⟨H0, Hi0, Ho0⟩, H1, Hi1, Ho1⟩
    isplitl [H0 H1]
    · isplitl [H0] <;> iassumption
    isplitl [Hi0 Hi1]
    · isplitl [Hi0] <;> iassumption
    isplitl [Ho0] <;> iassumption

/-- All three stagers at rest. -/
def stagersRest (d : Dev nD) : sProp 𝕄 := iprop((ownG m d).atRest ∗ (yG m d).atRest ∗ (xG m d).atRest)
/-- Every row's semaphores at zero. -/
def rowsZero (d : Dev nD) : sProp 𝕄 := bigSep Finset.univ fun x : Fin 4 × Fin 32 => zero d x.1 x.2

/-- The kernel's semaphores at zero are the stagers' and the rows'. -/
theorem ownSems0_parts (d : Dev nD) :
    (Pipeline.ownSems0 (Ix := Unit) (Name := ℕ) (U := UU) (Lvl := ℕ) (Val := Elt F) (τ := τ) osem d : sProp 𝕄)
      ⊣⊢ iprop(stagersRest m d ∗ rowsZero d) := by
  have h2 (A : Fin 2 → DmaSem sig) : (bigSep Finset.univ fun i : Fin 2 => (semVal ((d : Thread nD τ), .dma (A i)) 0 : sProp 𝕄))
      = iprop(semVal ((d : Thread nD τ), .dma (A 0)) 0 ∗ semVal ((d : Thread nD τ), .dma (A 1)) 0) := BI.bigSep_fin_two _
  have h6 : (bigSep Finset.univ fun a : Fin 6 × Fin 2 => (semVal ((d : Thread nD τ), .dma (stageSem a)) 0 : sProp 𝕄))
      = iprop(((ownG m d).isem0 0 ∗ (ownG m d).isem0 1) ∗ ((ownG m d).osem0 0 ∗ (ownG m d).osem0 1)
        ∗ ((yG m d).isem0 0 ∗ (yG m d).isem0 1) ∗ ((yG m d).osem0 0 ∗ (yG m d).osem0 1)
        ∗ ((xG m d).isem0 0 ∗ (xG m d).isem0 1) ∗ ((xG m d).osem0 0 ∗ (xG m d).osem0 1)) := by
    rw [bigSep_univ_prod, bigSep_congr fun (k : Fin 6) _ => h2 fun i => stageSem (k, i)]
    rw [bigSep_univ_eq_bigSepL [0, 1, 2, 3, 4, 5] (by decide) (by decide)
      (fun k : Fin 6 => (iprop(semVal ((d : Thread nD τ), .dma (stageSem (k, 0))) 0 ∗ semVal ((d : Thread nD τ), .dma (stageSem (k, 1))) 0) : sProp 𝕄))]
    unfold Staging.isem0 Staging.osem0
    simp only [bigSepL, stage_0, stage_1, stage_2, stage_3, stage_4, stage_5]
    rfl
  have e : (Pipeline.ownSems0 (Ix := Unit) (Name := ℕ) (U := UU) (Lvl := ℕ) (Val := Elt F) (τ := τ) osem d : sProp 𝕄)
      = iprop((bigSep Finset.univ fun a : Fin 6 × Fin 2 => (semVal ((d : Thread nD τ), .dma (stageSem a)) 0 : sProp 𝕄)) ∗ rowsZero d) := by
    unfold Pipeline.ownSems0
    exact BI.bigSep_univ_sum _
  rw [e, h6]
  unfold stagersRest Staging.atRest
  constructor
  · iintro ⟨⟨H1, H2, H3, H4, H5, H6⟩, HR⟩
    isplitr [HR]
    · isplitl [H1 H2]
      · isplitl [H1] <;> iassumption
      isplitl [H3 H4]
      · isplitl [H3] <;> iassumption
      isplitl [H5] <;> iassumption
    iexact HR
  · iintro ⟨⟨⟨H1, H2⟩, ⟨H3, H4⟩, H5, H6⟩, HR⟩
    isplitr [HR]
    · isplitl [H1]; · iexact H1
      isplitl [H2]; · iexact H2
      isplitl [H3]; · iexact H3
      isplitl [H4]; · iexact H4
      isplitl [H5] <;> iassumption
    iexact HR

/-- The barrier's is the one semaphore of the launch's own. -/
theorem unscopedSems0_eq (d : Dev nD) : (unscopedSems0 d : sProp 𝕄) = semVal (bar d) 0 := by
  unfold unscopedSems0; rw [bigSep_eq_bigSepL_of_eq [SemLoc.reg barS] (by decide) (by decide)]; rfl

/-! ## Cells and tokens -/

theorem kcell_injective : Function.Injective kcell := by
  rintro ⟨d, k⟩ ⟨e, l⟩ h
  have h1 : d = e := congrArg (fun g : GSem nD τ sig => g.1.1) h
  have h2 : csem k = csem l := congrArg Prod.snd h
  subst h1
  rcases k with _ | x <;> rcases l with _ | y
  · rfl
  · exact absurd h2 (by rintro ⟨⟩)
  · exact absurd h2 (by rintro ⟨⟩)
  · exact congrArg (fun z => (d, some z)) (dq_inj (SemLoc.dma.inj h2))
def cells : Finset (GSem nD τ sig) := Finset.univ.map ⟨kcell, kcell_injective⟩

/-- A device's duties: the two at its barrier, one at each cell of its rows. -/
abbrev TI := Bool ⊕ (Fin 4 × Fin 32)
def tokOf : Dev nD × TI → GSem nD τ sig × ℕ × Bool
  | (d, .inl b) => (bar d, 0, b)
  | (d, .inr x) => (cell d x.1 x.2, 0, false)
theorem tokOf_injective : Function.Injective tokOf := by
  rintro ⟨d, j⟩ ⟨e, l⟩ h
  rcases j with b | x <;> rcases l with c | y
  · have h1 : d = e := congrArg (fun t : GSem nD τ sig × ℕ × Bool => t.1.1.1) h
    have h2 : b = c := congrArg (fun t : GSem nD τ sig × ℕ × Bool => t.2.2) h
    rw [h1, h2]
  · have h2 : (SemLoc.reg barS : SemLoc sig) = .dma (dq y.1 y.2) := congrArg (fun t : GSem nD τ sig × ℕ × Bool => t.1.2) h
    exact absurd h2 (by rintro ⟨⟩)
  · have h2 : (SemLoc.dma (dq x.1 x.2) : SemLoc sig) = .reg barS := congrArg (fun t : GSem nD τ sig × ℕ × Bool => t.1.2) h
    exact absurd h2 (by rintro ⟨⟩)
  · have h1 : d = e := congrArg (fun t : GSem nD τ sig × ℕ × Bool => t.1.1.1) h
    have h2 : (SemLoc.dma (dq x.1 x.2) : SemLoc sig) = .dma (dq y.1 y.2) := congrArg (fun t : GSem nD τ sig × ℕ × Bool => t.1.2) h
    rw [h1, dq_inj (SemLoc.dma.inj h2)]
def tokens : Finset (GSem nD τ sig × ℕ × Bool) := Finset.univ.map ⟨tokOf, tokOf_injective⟩

/-- The element the launch starts from. -/
def u₀ : UU :=
  (initOf (Pipeline.cells cfgs cellOf_inj) (Pipeline.launchToks cfgs cellOf_inj), (initOf cells tokens, 1))

/-- The tokens of a device's own cells, -/
def toks (d : Dev nD) : sProp 𝕄 :=
  iprop((dutyTok ER (bar d) 0 false ∗ dutyTok ER (bar d) 0 true) ∗ bigSep Finset.univ fun x : Fin 4 × Fin 32 => tok d x.1 x.2)
/-- and of the duties it meets itself. -/
def payToks (d : Dev nD) : sProp 𝕄 :=
  iprop((dutyTok ER (bar (pY d)) 0 false ∗ dutyTok ER (bar (pX d)) 0 true)
    ∗ bigSep Finset.univ (tok d 0) ∗ bigSep Finset.univ (tok (pY d) 1) ∗ bigSep Finset.univ (tok d 2) ∗ bigSep Finset.univ (tok (pX d) 3))

def eY : Dev nD ≃ Dev nD := ⟨pY, pY, pY_pY, pY_pY⟩
def eX : Dev nD ≃ Dev nD := ⟨pX, pX, pX_pX, pX_pX⟩

/-- Each peer gets the tokens of the duties it meets. -/
theorem toks_around : (bigSep Finset.univ fun d : Dev nD => (toks d : sProp 𝕄)) ⊢ bigSep Finset.univ fun d : Dev nD => payToks d := by
  unfold toks payToks
  have hT (d : Dev nD) := four_rows (F := F) (fun k c => tok d k c)
  simp only [hT, bigSep_sep']
  rw [bigSep_univ_equiv eY (fun d : Dev nD => (dutyTok ER (bar d) 0 false : sProp 𝕄)),
    bigSep_univ_equiv eX (fun d : Dev nD => (dutyTok ER (bar d) 0 true : sProp 𝕄)),
    bigSep_univ_equiv eY (fun d : Dev nD => (bigSep Finset.univ (tok d 1) : sProp 𝕄)),
    bigSep_univ_equiv eX (fun d : Dev nD => (bigSep Finset.univ (tok d 3) : sProp 𝕄))]
  exact Entails.refl _

/-- What the starting element gives a device. -/
def G (d : Dev nD) : sProp 𝕄 :=
  iprop((bigSep Finset.univ fun k : CI => roundState ER (Rd m) (kcell (d, k)) 0)
    ∗ (bigSep Finset.univ fun k : CI => atPos ER (kcell (d, k)) 0 ∅ 0)
    ∗ (bigSep Finset.univ fun k : CI => reached ER (kcell (d, k)) 0) ∗ toks d)

theorem fund_cells : BI.own (ER (initOf cells tokens)) ⊢ (|==> bigSep Finset.univ (G m) : sProp 𝕄) := by
  have hX (Φ : GSem nD τ sig → sProp 𝕄) : bigSep cells Φ = bigSep Finset.univ fun d : Dev nD => bigSep Finset.univ fun k : CI => Φ (kcell (d, k)) := by
    unfold cells; rw [bigSep_map, bigSep_univ_prod]; rfl
  have hT : bigSep tokens (fun x => (dutyTok ER x.1 x.2.1 x.2.2 : sProp 𝕄)) = bigSep Finset.univ fun d : Dev nD => toks d := by
    unfold tokens; rw [bigSep_map, bigSep_univ_prod]
    refine bigSep_congr fun d _ => ?_
    rw [BI.bigSep_univ_sum]
    unfold toks
    refine congrArg₂ (fun A B : sProp 𝕄 => iprop(A ∗ B)) ?_ rfl
    exact bigSep_univ_eq_bigSepL [false, true] (by decide) (by decide) (fun b : Bool => (dutyTok ER (bar d) 0 b : sProp 𝕄))
  iintro H
  imod (Rounds.fund ER (Rd m) cells tokens) $$ H with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The starting element, taken apart. -/
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb _ _ _) $$ HX
  icases H with ⟨HX, -⟩
  imod (fund_cells m) $$ [HX] with HG
  · iexact HX
  imodintro
  isplitl [HP] <;> iassumption

/-! ## The invariants of the cells -/

/-- The cells' part of the records. -/
def cellRecords (K : Dev nD × CI → ℕ) : sProp 𝕄 :=
  iprop((bigSep Finset.univ fun x : Dev nD × CI => cellInv ER (Rd m) (K x) (kcell x))
    ∗ (bigSep Finset.univ fun x : Dev nD × CI => reached ER (kcell x) 0))
instance cellRecords_persistent (K : Dev nD × CI → ℕ) : BI.Persistent (cellRecords m K) := by unfold cellRecords; infer_instance

/-- What stays with a device: its stagers' semaphores, its positions, its tokens. -/
def kept (d : Dev nD) : sProp 𝕄 :=
  iprop(stagersRest m d ∗ (atPos ER (bar d) 0 ∅ 0 ∗ bigSep Finset.univ fun x : Fin 4 × Fin 32 => pos d x.1 x.2) ∗ payToks d)
def G' (d : Dev nD) : sProp 𝕄 := iprop(∃ K, cellRecords m K ∗ kept m d)

/-- A device's cells get their invariants. -/
theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : CI => iprop(∃ κ : ℕ, cellInv ER (Rd m) κ (kcell (d, k))))
          ∗ (bigSep Finset.univ fun k : CI => reached ER (kcell (d, k)) 0)
          ∗ (stagersRest m d ∗ bigSep Finset.univ fun k : CI => atPos ER (kcell (d, k)) 0 ∅ 0) ∗ toks d) := by
  unfold G
  rw [unscopedSems0_eq]
  iintro ⟨Hos, Hus, Hst, Hat, Hr, Htok⟩
  ihave H := (ownSems0_parts m d).1 $$ Hos
  icases H with ⟨Hs, Hv⟩
  imod (show iprop((semVal (bar d) 0 ∗ rowsZero d) ∗ bigSep Finset.univ fun k : CI => roundState ER (Rd m) (kcell (d, k)) 0)
      ⊢ (|={Set.univ}=> bigSep Finset.univ fun k : CI => iprop(∃ κ : ℕ, cellInv ER (Rd m) κ (kcell (d, k))) : sProp 𝕄) from by
        rw [show (iprop(semVal (bar d) 0 ∗ rowsZero d) : sProp 𝕄) = bigSep Finset.univ fun k : CI => semVal (kcell (d, k)) 0 from
          (barrier_rows (fun k : CI => (semVal (kcell (d, k)) 0 : sProp 𝕄))).symm, ← bigSep_sep']
        exact (bigSep_mono fun k _ => (Rounds.body_intro ER (Rd m) (kcell (d, k))).trans inv_alloc).trans (bigSep_fupd _ _)) $$ [Hus Hv Hst] with Hinv
  · isplitl [Hus Hv]
    · isplitl [Hus] <;> iassumption
    iexact Hst
  imodintro
  isplitl [Hinv]; · iexact Hinv
  isplitl [Hr]; · iexact Hr
  isplitl [Hs Hat]
  · isplitl [Hs] <;> iassumption
  iexact Htok

/-- Every device then knows every cell's invariant. -/
theorem regroup :
    (bigSep Finset.univ fun d : Dev nD => iprop((bigSep Finset.univ fun k : CI => iprop(∃ κ : ℕ, cellInv ER (Rd m) κ (kcell (d, k))))
          ∗ (bigSep Finset.univ fun k : CI => reached ER (kcell (d, k)) 0)
          ∗ (stagersRest m d ∗ bigSep Finset.univ fun k : CI => atPos ER (kcell (d, k)) 0 ∅ 0) ∗ toks d) : sProp 𝕄)
      ⊢ bigSep Finset.univ (G' m) := by
  rw [bigSep_sep', bigSep_sep', bigSep_sep', ← bigSep_univ_prod (fun x : Dev nD × CI => iprop(∃ κ : ℕ, cellInv ER (Rd m) κ (kcell x))),
    ← bigSep_univ_prod (fun x : Dev nD × CI => (reached ER (kcell x) 0 : sProp 𝕄))]
  iintro ⟨HI, #HR, Hat, Htok⟩
  ihave HK := (BI.bigSep_exists_pi Finset.univ (fun (x : Dev nD × CI) (κ : ℕ) => (cellInv ER (Rd m) κ (kcell x) : sProp 𝕄))) $$ HI
  icases HK with ⟨%K, #HI⟩
  ihave Htk := (toks_around (F := F)) $$ Htok
  ihave H := (fam_join (Φ := kept m) (A := fun d => iprop(stagersRest m d ∗ bigSep Finset.univ fun k : CI => atPos ER (kcell (d, k)) 0 ∅ 0)) (B := payToks) fun d => by
    rw [barrier_rows]
    unfold kept
    iintro ⟨⟨H1, H2⟩, H3⟩
    isplitl [H1]; · iexact H1
    isplitl [H2]; · iexact H2
    iexact H3) $$ [Hat Htk]
  · isplitl [Hat] <;> iassumption
  ihave H' := (BI.bigSep_of_persistent (Finset.univ : Finset (Dev nD)) (cellRecords m K)) $$ []
  · unfold cellRecords
    isplitl; · iexact HI
    iexact HR
  iapply (fam_join (Φ := G' m) (A := fun _ => cellRecords m K) (B := kept m) fun d => by
    unfold G'
    iintro H; iexists K; iexact H)
  isplitl [H'] <;> iassumption

/-- The step all devices take together before they start. -/
theorem glob :
    (bigSep Finset.univ fun d => iprop(Pipeline.ownSems0 (Ix := Unit) (Name := ℕ) (U := UU) (Lvl := ℕ) (Val := Elt F) (τ := τ) osem d ∗ unscopedSems0 d ∗ G m d) : sProp 𝕄)
      ⊢ |={Set.univ}=> bigSep Finset.univ (G' m) :=
  ((bigSep_mono fun d _ => core_alloc m d).trans (bigSep_fupd _ _)).trans (BI.fupd_mono (regroup m))

/-! ## The credit of what the peers owe -/

/-- The credit of a row of chunks each device owes the peer `p`. -/
theorem row_creds (p : Dev nD → Dev nD) (hp : ∀ d, p (p d) = d) (k : Fin 4) (d : Dev nD) :
    (Pipeline.launchCred (fun e => dues (fun c => cell (p e) k c) 0) d : sProp 𝕄) ⊢ bigSep Finset.univ (cr d k) := by
  unfold dues
  rw [Pipeline.launchCred_sum (Finset.univ.filter fun c : Fin 32 => 0 ≤ c.val) (fun c e => tallyAt (cell (p e) k c) () NC) d,
    Finset.filter_true_of_mem fun c _ => Nat.zero_le _]
  exact bigSep_mono fun c _ => Pipeline.launchCred_tallyAt (.dma (dq k c)) p p hp hp () NC d

/-- A device's launch credit: two units at its barrier, every chunk from "y" and every chunk from "x". -/
theorem creds (d : Dev nD) :
    (Pipeline.launchCred O₀ d : sProp 𝕄)
      ⊢ iprop(cred (tallyAt (bar d) () 2) ∗ bigSep Finset.univ (cr d 1) ∗ bigSep Finset.univ (cr d 3)) := by
  show (Pipeline.launchCred (fun e => ((oX e 0 + oY e 0) + tallyAt (bar (pX e)) () 1) + tallyAt (bar (pY e)) () 1) d : sProp 𝕄) ⊢ _
  rw [Pipeline.launchCred_add (fun e => (oX e 0 + oY e 0) + tallyAt (bar (pX e)) () 1), Pipeline.launchCred_add (fun e => oX e 0 + oY e 0),
    Pipeline.launchCred_add (fun e => oX e 0)]
  iintro ⟨⟨⟨HX, HY⟩, HbX⟩, HbY⟩
  ihave HX := (row_creds pX pX_pX 3 d) $$ HX
  ihave HY := (row_creds pY pY_pY 1 d) $$ HY
  ihave HbX := (Pipeline.launchCred_tallyAt (.reg barS) pX pX pX_pX pX_pX () 1 d) $$ HbX
  ihave HbY := (Pipeline.launchCred_tallyAt (.reg barS) pY pY pY_pY pY_pY () 1 d) $$ HbY
  isplitl [HbX HbY]
  · rw [show (2 : ℕ) = 1 + 1 from rfl, ← tallyAt_add]
    iapply (cred_add _ _).2
    isplitl [HbX] <;> iassumption
  isplitl [HY] <;> iassumption

end Cert.KernelIdeal.AllGather
-- ==== Proof.Launch.lean ====
/- The run of the whole program: what the launch holds is what the body of each device starts from, and what the body ends
   with is read off the final memory. -/
module

public import proofs.«01_k».proof.Proof.Deal
public import proofs.«01_k».proof.Proof.Gen.KernelIdeal.Points
public import Idealize.ShloMosaic.Lib.Pipeline.CollectiveSegs

@[expose] public section

noncomputable section

namespace Cert.KernelIdeal.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the launch to the body -/

/-- The part of the buffers that the body works on: room for what the peers send, the chunks to send and to load, the
    chunks of the result. -/
def bufs (d : Dev nD) : sProp 𝕄 :=
  iprop((bigSep Finset.univ (landing d (pY d)) ∗ bigSep Finset.univ (landing d (pX d)))
    ∗ (bigSep Finset.univ (xPt m d) ∗ bigSep Finset.univ (ownG m d).inPt)
    ∗ (bigSep Finset.univ (ownG m d).todo ∗ bigSep Finset.univ (yG m d).todo ∗ bigSep Finset.univ (xG m d).todo))
/-- The share of the input that stays outside the body. -/
def keep (d : Dev nD) : sProp 𝕄 := ((d : Thread nD τ).loc main_arg0) ↦{qKeep} m ((d : Thread nD τ).loc main_arg0)

/-- Elements with given contents are elements with some contents. -/
theorem some_contents (ℓ : Loc nD τ sig) (I : Finset (Idx ℓ)) (f : Buf (Elt F) ℓ) :
    (ℓ ↦[I]{fullShare} f : sProp 𝕄) ⊢ iprop(∃ f : Buf (Elt F) ℓ, ℓ ↦[I]{fullShare} f) := by
  iintro H; iexists f; iexact H

/-- The receive buffer is the room for both peers. -/
theorem room (d : Dev nD) (f : Buf (Elt F) ((d : Thread nD τ).loc main_v1_1)) :
    (((d : Thread nD τ).loc main_v1_1) ↦{fullShare} f : sProp 𝕄)
      ⊢ iprop(bigSep Finset.univ (landing d (pY d)) ∗ bigSep Finset.univ (landing d (pX d))) := by
  refine (comm_split d f).trans (BI.sep_mono (bigSep_mono fun c _ => ?_) (bigSep_mono fun c _ => ?_))
  · unfold landing
    rw [commC_pY]
    exact some_contents _ _ f
  · unfold landing
    rw [commC_pX]
    exact some_contents _ _ f

/-- The result's buffer is its chunks, to be written. -/
theorem blank (d : Dev nD) (f : Buf (Elt F) ((d : Thread nD τ).loc main_v1_0)) :
    (((d : Thread nD τ).loc main_v1_0) ↦{fullShare} f : sProp 𝕄)
      ⊢ iprop(bigSep Finset.univ (ownG m d).todo ∗ bigSep Finset.univ (yG m d).todo ∗ bigSep Finset.univ (xG m d).todo) := by
  exact (out_split d f).1.trans (BI.sep_mono (bigSep_mono fun c _ => some_contents _ _ f)
    (BI.sep_mono (bigSep_mono fun c _ => some_contents _ _ f) (bigSep_mono fun c _ => some_contents _ _ f)))

/-- The launch's buffers are those parts. -/
theorem bufs_split (d : Dev nD) :
    (Pipeline.unscopedRest (Ix := Unit) (Name := ℕ) (U := UU) (Lvl := ℕ) cfg0.spec d (fun b => m ((d : Thread nD τ).loc b)) : sProp 𝕄)
      ⊢ iprop(bufs m d ∗ keep m d) := by
  rw [unscopedRest0_eq]
  iintro ⟨Hx, Ho, Hc⟩
  ihave Hx := (pointsTo_share (PosShare.mem_left_op_right fullShare)).1 $$ Hx
  icases Hx with ⟨Hx, Hk⟩
  ihave Hx := (pointsTo_share (PosShare.mem_left_op_right fullShare.left)).1 $$ Hx
  icases Hx with ⟨Hl, Hs⟩
  unfold bufs keep
  isplitr [Hk]
  · isplitl [Hc]
    · iapply (room d _); iexact Hc
    isplitl [Hs Hl]
    · isplitl [Hs]
      · iapply (x_half d qSend _); iexact Hs
      iapply (x_split d qLoad _); iexact Hl
    iapply (blank m d _); iexact Ho
  iexact Hk

/-- What a device takes into its body: the records, its part of what was dealt, its credit, its buffers. -/
def start (d : Dev nD) : sProp 𝕄 :=
  iprop((∃ K, records m K ∗ kept m d)
    ∗ (cred (tallyAt (bar d) () 2) ∗ bigSep Finset.univ (cr d 1) ∗ bigSep Finset.univ (cr d 3)) ∗ bufs m d)

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ keep m d) := by
  rw [Pipeline.unscopedRestP_none]
  iintro ⟨Hb, Hl, Hc, -, HG⟩
  ihave Hb := (bufs_split m d) $$ Hb
  icases Hb with ⟨Hb, Hk⟩
  ihave Hc := (creds d) $$ Hc
  imodintro
  unfold start G' cellRecords records
  icases HG with ⟨%K, ⟨HI, HR⟩, HK⟩
  isplitr [Hk]
  · isplitl [HI HR HK Hl]
    · iexists K
      isplitr [HK]
      · isplitl [HI]; · iexact HI
        isplitl [HR] <;> iassumption
      iexact HK
    isplitl [Hc] <;> iassumption
  iexact Hk

/-- The rows' positions, tokens and credit, phase by phase. -/
theorem rows_start (d : Dev nD) :
    iprop((bigSep Finset.univ fun x : Fin 4 × Fin 32 => pos d x.1 x.2)
        ∗ (bigSep Finset.univ (tok d 0) ∗ bigSep Finset.univ (tok (pY d) 1) ∗ bigSep Finset.univ (tok d 2) ∗ bigSep Finset.univ (tok (pX d) 3))
        ∗ (bigSep Finset.univ (cr d 1) ∗ bigSep Finset.univ (cr d 3)))
      ⊢ (iprop(bigSep Finset.univ (sendRow d) ∗ bigSep Finset.univ (pairRow d) ∗ bigSep Finset.univ (lastRes d) ∗ bigSep Finset.univ (sentRow d)) : sProp 𝕄) := by
  rw [four_rows (fun k c => pos d k c)]
  unfold sendRow pairRow lastRes sentRow
  simp only [bigSep_sep']
  iintro ⟨⟨P0, P1, P2, P3⟩, ⟨T0, T1, T2, T3⟩, C1, C3⟩
  isplitl [T0 T1]
  · isplitl [T0] <;> iassumption
  isplitl [C1 P1 T2 T3]
  · isplitl [C1]; · iexact C1
    isplitl [P1]; · iexact P1
    isplitl [T2] <;> iassumption
  isplitl [C3 P3]
  · isplitl [C3] <;> iassumption
  isplitl [P0] <;> iassumption

/-- A stager with all its chunks to be copied and its slots at rest. -/
theorem Staging.ready {n : ℕ} {S : Shape} {St : Stager n S} {d : Dev nD} (G : Staging (F := F) St d) :
    iprop(bigSep Finset.univ G.todo ∗ (G.slotPt 0 ∗ G.slotPt 1) ∗ G.atRest) ⊢ G.inv 0 :=
  (sep_mono_right G.free_both.1).trans G.inv_zero

/-- The body's start. -/
def Φ₀ (d : Dev nD) : sProp 𝕄 := iprop(∃ K, records m K ∗ bodyStart m d)

theorem start_body (d : Dev nD) : iprop(start m d ∗ Pipeline.scopedRest cfg0.spec d) ⊢ Φ₀ m d := by
  rw [scopedRest0_eq]
  unfold start kept stagersRest payToks bufs Φ₀ bodyStart
  iintro ⟨⟨⟨%K, HR, ⟨RO, RY, RX⟩, ⟨Hat, Hpos⟩, ⟨HtY, HtX⟩, Htok⟩, ⟨Hcb, Hcr⟩, Hroom, Hx, TO, TY, TX⟩, SO, SY, SX⟩
  iexists K
  isplitl [HR]; · iexact HR
  isplitl [Hcb Hat HtY HtX]
  · isplitl [Hcb]; · iexact Hcb
    isplitl [Hat]; · iexact Hat
    isplitl [HtY] <;> iassumption
  isplitl [Hroom]; · iexact Hroom
  isplitl [Hpos Htok Hcr]
  · iapply (rows_start d)
    isplitl [Hpos]; · iexact Hpos
    isplitl [Htok] <;> iassumption
  isplitl [Hx]; · iexact Hx
  isplitl [RO TO SO]
  · iapply (ownG m d).ready
    isplitl [TO]; · iexact TO
    isplitl [SO]
    · iapply (own_slots m d).1; iexact SO
    iexact RO
  isplitl [RY TY SY]
  · iapply (yG m d).ready
    isplitl [TY]; · iexact TY
    isplitl [SY]
    · iapply (y_slots m d).1; iexact SY
    iexact RY
  iapply (xG m d).ready
  isplitl [TX]; · iexact TX
  isplitl [SX]
  · iapply (x_slots m d).1; iexact SX
  iexact RX

/-! ## From the body to the end -/

/-- The result in full. -/
def result (d : Dev nD) : sProp 𝕄 := ((d : Thread nD τ).loc main_v1_0) ↦{fullShare} outF m d

theorem body_exit (d : Dev nD) :
    bodyEnd m d ⊢ iprop((result m d ∗ unscopedSems0 d) ∗ Pipeline.ownSems0 osem d ∗ Pipeline.scopedRest cfg0.spec d) := by
  rw [scopedRest0_eq, unscopedSems0_eq]
  unfold bodyEnd result
  iintro ⟨Hd, ⟨FO, FY, FX⟩, Hb, Hz⟩
  ihave FO := (ownG m d).free_both.2 $$ FO
  icases FO with ⟨SO, RO⟩
  ihave FY := (yG m d).free_both.2 $$ FY
  icases FY with ⟨SY, RY⟩
  ihave FX := (xG m d).free_both.2 $$ FX
  icases FX with ⟨SX, RX⟩
  isplitl [Hd Hb]
  · isplitl [Hd]
    · iapply (out_split d (outF m d)).2; iexact Hd
    iexact Hb
  isplitl [RO RY RX Hz]
  · iapply (ownSems0_parts m d).2
    isplitl [RO RY RX]
    · unfold stagersRest
      isplitl [RO]; · iexact RO
      isplitl [RY] <;> iassumption
    iapply (show iprop(bigSep Finset.univ (sentOut d) ∗ bigSep Finset.univ (zero d 1) ∗ bigSep Finset.univ (zero d 3)) ⊢ (rowsZero d : sProp 𝕄) from by
      unfold rowsZero sentOut
      rw [four_rows (fun k c => zero d k c)]
      simp only [bigSep_sep']
      iintro ⟨⟨Z0, Z2⟩, Z1, Z3⟩
      isplitl [Z0]; · iexact Z0
      isplitl [Z1]; · iexact Z1
      isplitl [Z2] <;> iassumption)
    iexact Hz
  isplitl [SO]
  · iapply (own_slots m d).2; iexact SO
  isplitl [SY]
  · iapply (y_slots m d).2; iexact SY
  iapply (x_slots m d).2; iexact SX

/-! ## The run -/

def dats (_ : Fin 1) (d : Dev nD) : Dat τ (Elt F) Unit ℕ UU ℕ cfg0 d where
  A w := w.elim0
  after w _ := w.elim0
  Φ t := match t with
    | ⟨0, _⟩ => Φ₀ m d
    | ⟨_ + 1, _⟩ => bodyEnd m d
  q _ := fullShare
  owed t := match t with
    | ⟨0, _⟩ => O₀ d
    | ⟨_ + 1, _⟩ => 0

/-- There are no windows. -/
theorem no_windows (Φ : Fin cfg0.W → sProp 𝕄) : bigSep Finset.univ Φ = BI.emp := by
  rw [show (Finset.univ : Finset (Fin cfg0.W)) = ∅ from rfl, BI.bigSep_empty]

set_option maxRecDepth 65536 in
/-- What the launch asks of the body, on any device. -/
theorem body_obligation (d : Dev nD) : BodyObligation (dats (F := F) m 0 d) (defs₀ (F := F)) 𝒱₀ () Set.univ := fun t => by
  rw [fin_N0 t]
  rw [no_windows, no_windows]
  show iprop(Φ₀ m d ∗ (dats m 0 d).owesAt () (t0_0 : Fin cfg0.N).castSucc ∗ BI.emp) ⊢ run d (bodyAt0 t0_0)
    (fun _ => iprop(bodyEnd m d ∗ (dats m 0 d).owesAt () (t0_0 : Fin cfg0.N).succ ∗ BI.emp))
  unfold bodyAt0
  rw [cc0_body_eq]
  unfold Φ₀ Dat.owesAt Pipeline.owesWithin
  iintro ⟨⟨%K, HR, HB⟩, ⟨%W, -, Ho⟩, -⟩
  unfold run
  ihave H := (run_body m K d) $$ [HR HB Ho]
  · unfold bodyPre owing
    isplitl [HR]; · iexact HR
    isplitl [Ho]
    · iexists W; iexact Ho
    iexact HB
  iapply (wp_wand (Fr := frame) (wpE := wpE (defs₀ (F := F)) 𝒱₀ (d : Thread nD τ) none) (E := Set.univ) (p := body) (Q := fun _ => bodyPost m d)) $$ H
  iintro %a H
  unfold bodyPost owing
  icases H with ⟨⟨%W', Ho⟩, HE⟩
  isplitl [HE]; · iexact HE
  isplitl [Ho]
  · iexists W'
    isplitr
    · ipureintro; exact fun _ _ => Or.inl trivial
    iexact Ho
  iempintro

theorem waits (d : Dev nD) : (levAts L lv : sProp 𝕄) ⊢ Pipeline.cellsWaits cfgs (dats m) () 0 d :=
  Pipeline.cellsWaits_intro cfgs (dats m) () 0 d fun w => w.elim0

/-- The memory holds a buffer's contents. -/
theorem read_buf (d : Dev nD) (b : Ref sig .tc) (q : PosShare TreeShare) (f : Buf (Elt F) ((d : Thread nD τ).loc b)) (s : Phys nD τ sig (Elt F)) :
    iprop((((d : Thread nD τ).loc b) ↦{q} f : sProp 𝕄) ∗ SI s) ⊢ iprop(⌜s.mem.mem ((d : Thread nD τ).loc b) = f⌝ ∗ SI s) := by
  have h := pointsTo_read_all (Ix := Unit) (Name := ℕ) (U := UU) (Lvl := ℕ) ({()} : Finset Unit) (fun _ => (d : Thread nD τ).loc b) (fun _ => f) s q
  rw [BI.bigSep_singleton] at h
  exact h.trans (sep_mono_left (BI.pure_mono fun h => h () (Finset.mem_singleton_self _)))

set_option maxRecDepth 65536 in
/-- For any float values, from any memory with its semaphores at zero: every fair run of the program ends, each device's
    result is the gathered one, its input is unchanged, and every semaphore is at zero. -/
theorem run_main : θ_run defs (onTc (τ := τ) (main (F := F))) (s₀ m ρ) (fun r =>
    (∀ d : Dev nD, r.2.mem ((d : Thread nD τ).loc main_v1_0) = outF m d ∧ r.2.mem ((d : Thread nD τ).loc main_arg0) = m ((d : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund_all m) (hglob := glob m)
    (hA := fun _ w => w.elim0) (hpf := fun _ k => k.elim0)
    (X := start m) (Y := fun d => iprop(result m d ∗ unscopedSems0 d)) (Z := keep m)
    (hX := start_intro m ρ)
    (hin := fun d => (show iprop(start m d ∗ _ ∗ _) ⊢ Φ₀ m d from by
      iintro ⟨Hs, -, Hr⟩
      iapply (start_body m d)
      isplitl [Hs] <;> iassumption))
    (hout := body_exit m)
    (QY := fun d s => (s.mem ((d : Thread nD τ).loc main_v1_0) = outF m d ∧ s.mem ((d : Thread nD τ).loc main_arg0) = m ((d : Thread nD τ).loc main_arg0))
      ∧ ∀ sm : SemLoc sig, sm.isScoped .tc = false → s.sem ((d : Thread nD τ), sm) = 0)
    (hY := fun d s => by
      unfold result keep
      iintro ⟨⟨Ho, Hu⟩, Hk, HSI⟩
      ihave H := (read_buf d main_v1_0 _ _ s) $$ [Ho HSI]
      · isplitl [Ho] <;> iassumption
      icases H with ⟨%ho, HSI⟩
      ihave H := (read_buf d main_arg0 _ _ s) $$ [Hk HSI]
      · isplitl [Hk] <;> iassumption
      icases H with ⟨%hk, HSI⟩
      imod (Pipeline.unscopedSems0_read (X := unscopedSems0 d) (c := d) fupd_intro s) $$ [Hu HSI] with ⟨%hz, HSI⟩
      · isplitl [Hu] <;> iassumption
      imodintro
      isplitr [HSI]
      · ipureintro; exact ⟨⟨ho, hk⟩, hz⟩
      iexact HSI)
    (hQ := fun _ h hs => ⟨fun d => (h d).2.2.1, sem_eq_zero hs fun d => (h d).2.2.2⟩)

end Cert.KernelIdeal.AllGather
-- ==== Proof.Value.lean ====
/- What the result is: on every device the array of which each device was given a half. And the run of the program on
   one device that it is compared with, which returns its argument. -/
module

public import proofs.«01_k».proof.Proof.Launch
public import proofs.«01_k».proof.Proof.Gen.ReferenceIdeal
public import Idealize.ShloMosaic.Lib.Layout
public import Idealize.ShloMosaic.Lib.StableHlo.Run

@[expose] public section

noncomputable section

namespace Cert.KernelIdeal.AllGather

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Each device was given its half of the array `v`: the upper one if its coordinate along the gathered axis is zero, the
    lower one if it is one. -/
def Halves (v : S65536x1024.Idx → Elt F .f32) : Prop :=
  ∀ e : Dev nD, m ((e : Thread nD τ).loc main_arg0)
    = Layout.blockN S32768x1024 S65536x1024 (Layout.meshBlock [2, 2] ![[1], []] e) v

/-- The half that a device holds is named by its coordinate along the gathered axis, and is not cut along its rows. -/
abbrev half (e : Dev nD) := Layout.meshBlock (r := 2) [2, 2] ![[1], []] e
theorem half_val (e : Dev nD) : (half e (0 : Fin 2)).val = e.val % 2 := by
  rw [Layout.meshBlock_val]
  simp [Layout.meshLin, Layout.meshCoord, Layout.cutSize]
theorem columns_val (e : Dev nD) : (half e (1 : Fin 2)).val = 0 := by
  rw [Layout.meshBlock_val]
  simp [Layout.meshLin]

/-- The row and the column of an element within its half. -/
theorem low_row (i : S65536x1024.Idx) : (low i (0 : Fin 2)).val = (i (0 : Fin 2)).val % 32768 := rfl
theorem low_col (i : S65536x1024.Idx) : (low i (1 : Fin 2)).val = (i (1 : Fin 2)).val := rfl
theorem rows_size : S32768x1024.size (0 : Fin 2) = 32768 := rfl

/-- An element of the array is in the half of every device whose coordinate says so, at its row within that half. -/
theorem half_at {v : S65536x1024.Idx → Elt F .f32} (h : Halves m v) (e : Dev nD) (i : S65536x1024.Idx)
    (he : (i (0 : Fin 2)).val / 32768 = e.val % 2) : m ((e : Thread nD τ).loc main_arg0) (low i) = v i := by
  rw [h e, Layout.blockN_apply]
  refine congrArg v (funext fun a => Fin.ext ?_)
  rw [Layout.TilesN.idx_val]
  match a with
  | (0 : Fin 2) =>
    show (half e (0 : Fin 2)).val * S32768x1024.size (0 : Fin 2) + (low i (0 : Fin 2)).val = (i (0 : Fin 2)).val
    rw [half_val, low_row, rows_size]
    omega
  | (1 : Fin 2) =>
    show (half e (1 : Fin 2)).val * S32768x1024.size (1 : Fin 2) + (low i (1 : Fin 2)).val = (i (1 : Fin 2)).val
    rw [columns_val, low_col]
    omega

/-- The result is the whole array, on every device: its own half where that half belongs, and elsewhere the half of the
    devices on the other side, from whichever of them each row came. -/
theorem outF_whole {v : S65536x1024.Idx → Elt F .f32} (h : Halves m v) (d : Dev nD) : outF m d = v := by
  funext i
  have hi : (i (0 : Fin 2)).val < 65536 := (i (0 : Fin 2)).isLt
  by_cases hd : (i (0 : Fin 2)).val / 32768 = d.val % 2
  · exact (if_pos hd).trans (half_at m h d i hd)
  · refine (if_neg hd).trans (half_at m h _ i ?_)
    show (i (0 : Fin 2)).val / 32768 = (2 * ((i (0 : Fin 2)).val % 32768 / 16384 % 2) + (1 - d.val % 2)) % 2
    omega

end Cert.KernelIdeal.AllGather

namespace Cert.ReferenceIdeal.Whole

open Cert.ReferenceIdeal Cert.ReferenceIdeal.Gen
open Idealize.ShloMosaic
open Idealize.ShloMosaic.TcCoe
open Idealize.ShloMosaic.StableHlo

variable {F : FTy → Type} [FloatOps F]

/-- The program on one device has no buffer and no semaphore of its own. -/
theorem scopedRefs_eq : (Finset.univ.filter fun b : Ref sig .tc => b.isScoped) = ∅ := by decide
theorem scopedSems_eq : (Finset.univ.filter fun sm : SemLoc sig => sm.isScoped .tc) = ∅ := by decide

/-- The program on one device runs no operation: every execution ends, with its argument — which is its result — as it was
    at launch. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_arg0) = m ((c : Thread nD τ).loc main_arg0) :=
  (θ_run defs _ _).mono (fun _ h c => h c main_arg0)
    (run_seq scopedRefs_eq scopedSems_eq defs main (fun _ => []) (fun _ => rfl) (fun _ => trivial) m ρ)

end Cert.ReferenceIdeal.Whole

end
-- ==== Proof.lean ====
/- The proof of the certificate's claims: both forms of the kernel end with the input kept and every semaphore at zero, so
   does the program on one device, and in exact arithmetic every device ends with the array that program returns. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Lib.Quiescent

@[expose] public section

noncomputable section

namespace Cert.Proof

open Idealize.ShloMosaic Idealize.SL.Sem
open Cert.KernelIdeal.AllGather (run_main outF_whole)

/-- The kernel as written ends, with the input of every device kept and every semaphore at zero. -/
theorem frame_kernel : Cert.quiescent_Kernel := fun m ρ _ =>
  (θ_run Cert.KernelIdeal.defs _ _).mono (fun _ h => ⟨fun c => (h.1 c).2, h.2⟩) (run_main (F := Bits) m ρ)

/-- The kernel in exact arithmetic ends, with the input of every device kept and every semaphore at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The program on one device ends, with its input kept; it has no semaphore. -/
theorem frame_referenceIdeal : Cert.quiescent_ReferenceIdeal := fun m ρ _ =>
  (θ_run Cert.ReferenceIdeal.defs _ _).mono (fun r h => ⟨h, sem_eq_zero_of_no_sems (by decide) r.2⟩)
    (Cert.ReferenceIdeal.Whole.run_main (F := Ideal) m ρ)

/-- Nothing was rewritten between the kernel as written and the kernel in exact arithmetic. -/
theorem preserves : Cert.preserves_Kernel_KernelIdeal := trivial

/-- From inputs that are the devices' halves of the array given to the program on one device, every device ends with the
    array that program returns. -/
theorem algebraic : Cert.algebraic_KernelIdeal_ReferenceIdeal := fun m ρ m' ρ' _ hagree =>
  ⟨m' ((0 : Dev Cert.ReferenceIdeal.nD).tc.loc Cert.ReferenceIdeal.main_arg0),
    (θ_run Cert.KernelIdeal.defs _ _).mono (fun _ h c => ⟨(h.1 c).1.trans (outF_whole m hagree c), (h.1 c).2⟩)
      (run_main (F := Ideal) m ρ),
    (θ_run Cert.ReferenceIdeal.defs _ _).mono (fun _ h => ⟨h 0, h 0⟩)
      (Cert.ReferenceIdeal.Whole.run_main (F := Ideal) m' ρ')⟩

/-- Every claim of the certificate. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
